-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v4)) (v3 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_v5) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_v12) = v2 c
          ∧ r.2.mem ((c.tc : Thread Cert.ReferenceIdeal.nD Cert.ReferenceIdeal.τ).loc Cert.ReferenceIdeal.main_v27) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x256x7168 : Shape := ⟨3, ![1, 256, 7168]⟩
abbrev S3584x18432 : Shape := ⟨2, ![3584, 18432]⟩
abbrev S56x18432 : Shape := ⟨2, ![56, 18432]⟩
abbrev S256x7168 : Shape := ⟨2, ![256, 7168]⟩
abbrev S256x18432 : Shape := ⟨2, ![256, 18432]⟩
abbrev S256x3584 : Shape := ⟨2, ![256, 3584]⟩
abbrev S256x56 : Shape := ⟨2, ![256, 56]⟩
abbrev S3584x512 : Shape := ⟨2, ![3584, 512]⟩
abbrev S56x512 : Shape := ⟨2, ![56, 512]⟩
abbrev S256x512 : Shape := ⟨2, ![256, 512]⟩
abbrev S128x64 : Shape := ⟨2, ![128, 64]⟩
abbrev S256x128 : Shape := ⟨2, ![256, 128]⟩
abbrev S256 : Shape := ⟨1, ![256]⟩
abbrev S256x1 : Shape := ⟨2, ![256, 1]⟩
abbrev S256x64 : Shape := ⟨2, ![256, 64]⟩
abbrev S128x512 : Shape := ⟨2, ![128, 512]⟩
abbrev S128x1x512 : Shape := ⟨3, ![128, 1, 512]⟩
abbrev S128x2x512 : Shape := ⟨3, ![128, 2, 512]⟩
abbrev S2x512 : Shape := ⟨2, ![2, 512]⟩
abbrev S1x512 : Shape := ⟨2, ![1, 512]⟩
abbrev S256x256 : Shape := ⟨2, ![256, 256]⟩
abbrev S1x256x18432 : Shape := ⟨3, ![1, 256, 18432]⟩
abbrev S1x256x3584 : Shape := ⟨3, ![1, 256, 3584]⟩
abbrev S1x256x56 : Shape := ⟨3, ![1, 256, 56]⟩

abbrev nBuf : Space → Nat
  | .hbm => 12
  | .vmem => 11
  | .smem => 0
  | _ => 0

abbrev bufTy : (tb : Table) → Fin (tcTables nBuf tb) → BufTy
  | .hbm, ⟨0, _⟩ => ⟨S1x256x7168, .bf16⟩
  | .hbm, ⟨1, _⟩ => ⟨S3584x18432, .i8⟩
  | .hbm, ⟨2, _⟩ => ⟨S56x18432, .f32⟩
  | .hbm, ⟨3, _⟩ => ⟨S256x7168, .bf16⟩
  | .hbm, ⟨4, _⟩ => ⟨S256x18432, .bf16⟩
  | .hbm, ⟨5, _⟩ => ⟨S256x3584, .i8⟩
  | .hbm, ⟨6, _⟩ => ⟨S256x56, .f32⟩
  | .hbm, ⟨7, _⟩ => ⟨S256x56, .i8⟩
  | .hbm, ⟨8, _⟩ => ⟨S1x256x18432, .bf16⟩
  | .hbm, ⟨9, _⟩ => ⟨S1x256x3584, .i8⟩
  | .hbm, ⟨10, _⟩ => ⟨S1x256x56, .f32⟩
  | .hbm, ⟨11, _⟩ => ⟨S1x256x56, .i8⟩
  | .local _ .vmem, ⟨0, _⟩ => ⟨S256x7168, .bf16⟩
  | .local _ .vmem, ⟨1, _⟩ => ⟨S3584x512, .i8⟩
  | .local _ .vmem, ⟨2, _⟩ => ⟨S3584x512, .i8⟩
  | .local _ .vmem, ⟨3, _⟩ => ⟨S56x512, .f32⟩
  | .local _ .vmem, ⟨4, _⟩ => ⟨S56x512, .f32⟩
  | .local _ .vmem, ⟨5, _⟩ => ⟨S256x512, .bf16⟩
  | .local _ .vmem, ⟨6, _⟩ => ⟨S256x512, .bf16⟩
  | .local _ .vmem, ⟨7, _⟩ => ⟨S256x3584, .i8⟩
  | .local _ .vmem, ⟨8, _⟩ => ⟨S256x56, .f32⟩
  | .local _ .vmem, ⟨9, _⟩ => ⟨S256x56, .i8⟩
  | .local _ .vmem, ⟨10, _⟩ => ⟨S256x7168, .bf16⟩
  | _, _ => ⟨S1x256x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![36], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_245 : BitVec 32 := 0#32
  let c28_i32_246 : BitVec 32 := 28#32
  let v864 : BitVec 32 := Scalar.addi c0_i32_245 c28_i32_246
  let c1_i32_247 : BitVec 32 := 1#32
  ⟨c0_i32_245, v864, c1_i32_247⟩
def k0_mult1 (k0_t1 : Fin k0_t1_loop.trips) : BitVec 32 :=
  let c2_i32_253 : BitVec 32 := 2#32
  let c0_i32_245 : BitVec 32 := 0#32
  let c1_i32_247 : BitVec 32 := 1#32
  let arg9 : BitVec 32 := Scf.iv c0_i32_245 c1_i32_247 k0_t1
  let v872 : BitVec 32 := Scalar.muli c2_i32_253 arg9
  let c0_i32_254 : BitVec 32 := 0#32
  let v873 : BitVec 32 := Scalar.addi v872 c0_i32_254
  let c128_i32 : BitVec 32 := 128#32
  let v874 : BitVec 32 := Scalar.muli v873 c128_i32
  v874
def k0_off1 (k0_t1 : Fin k0_t1_loop.trips) (c0_i32_254 : BitVec 32) : Fin 2 → Nat :=
  let c0_255 : Index := 0#32
  let c2_i32_253 : BitVec 32 := 2#32
  let c0_i32_245 : BitVec 32 := 0#32
  let c1_i32_247 : BitVec 32 := 1#32
  let arg9 : BitVec 32 := Scf.iv c0_i32_245 c1_i32_247 k0_t1
  let v872 : BitVec 32 := Scalar.muli c2_i32_253 arg9
  let v873 : BitVec 32 := Scalar.addi v872 c0_i32_254
  let c128_i32 : BitVec 32 := 128#32
  let v874 : BitVec 32 := Scalar.muli v873 c128_i32
  let v875 : BitVec 32 := v874
  let v876 : Index := Scalar.indexCast v875
  ![0, v876.toNat]
def k0_mult2 (k0_t1 : Fin k0_t1_loop.trips) : BitVec 32 :=
  let c2_i32_267 : BitVec 32 := 2#32
  let c0_i32_245 : BitVec 32 := 0#32
  let c1_i32_247 : BitVec 32 := 1#32
  let arg9 : BitVec 32 := Scf.iv c0_i32_245 c1_i32_247 k0_t1
  let v930 : BitVec 32 := Scalar.muli c2_i32_267 arg9
  let c1_i32_268 : BitVec 32 := 1#32
  let v931 : BitVec 32 := Scalar.addi v930 c1_i32_268
  let c128_i32_269 : BitVec 32 := 128#32
  let v932 : BitVec 32 := Scalar.muli v931 c128_i32_269
  v932
def k0_mult3 (k0_t1 : Fin k0_t1_loop.trips) : BitVec 32 :=
  let c0_i32_245 : BitVec 32 := 0#32
  let c1_i32_247 : BitVec 32 := 1#32
  let arg9 : BitVec 32 := Scf.iv c0_i32_245 c1_i32_247 k0_t1
  let c128_i32_282 : BitVec 32 := 128#32
  let v988 : BitVec 32 := Scalar.muli arg9 c128_i32_282
  v988
def k0_off2 (k0_t1 : Fin k0_t1_loop.trips) : Fin 2 → Nat :=
  let c0_283 : Index := 0#32
  let c0_i32_245 : BitVec 32 := 0#32
  let c1_i32_247 : BitVec 32 := 1#32
  let arg9 : BitVec 32 := Scf.iv c0_i32_245 c1_i32_247 k0_t1
  let c128_i32_282 : BitVec 32 := 128#32
  let v988 : BitVec 32 := Scalar.muli arg9 c128_i32_282
  let v989 : BitVec 32 := v988
  let v992 : Index := Scalar.indexCast v989
  ![0, v992.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3584x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S56x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x3584 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x56 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x56 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S1x256x7168 : Shape := ⟨3, ![1, 256, 7168]⟩
abbrev S3584x18432 : Shape := ⟨2, ![3584, 18432]⟩
abbrev S56x18432 : Shape := ⟨2, ![56, 18432]⟩
abbrev S2 : Shape := ⟨1, ![2]⟩
abbrev S1x256x56x128 : Shape := ⟨4, ![1, 256, 56, 128]⟩
abbrev S_ : Shape := ⟨0, ![]⟩
abbrev S1x256x56 : Shape := ⟨3, ![1, 256, 56]⟩
abbrev S1x256x56x1 : Shape := ⟨4, ![1, 256, 56, 1]⟩
abbrev S1x256x3584x2 : Shape := ⟨4, ![1, 256, 3584, 2]⟩
abbrev S1x256x3584x1 : Shape := ⟨4, ![1, 256, 3584, 1]⟩
abbrev S1x256x3584 : Shape := ⟨3, ![1, 256, 3584]⟩
abbrev S1x256x56x64x2 : Shape := ⟨5, ![1, 256, 56, 64, 2]⟩
abbrev S1x256x2x56x64 : Shape := ⟨5, ![1, 256, 2, 56, 64]⟩
abbrev S1x56x64x18432 : Shape := ⟨4, ![1, 56, 64, 18432]⟩
abbrev S2x1x1x1 : Shape := ⟨4, ![2, 1, 1, 1]⟩
abbrev S2x56x64x18432 : Shape := ⟨4, ![2, 56, 64, 18432]⟩
abbrev S1x56x1x18432 : Shape := ⟨4, ![1, 56, 1, 18432]⟩
abbrev S1x256x18432 : Shape := ⟨3, ![1, 256, 18432]⟩

abbrev nBuf : Space → Nat
  | .hbm => 86
  | .vmem => 0
  | .smem => 0
  | _ => 0

abbrev bufTy : (tb : Table) → Fin (tcTables nBuf tb) → BufTy
  | .hbm, ⟨0, _⟩ => ⟨S1x256x7168, .bf16⟩
  | .hbm, ⟨1, _⟩ => ⟨S3584x18432, .i8⟩
  | .hbm, ⟨2, _⟩ => ⟨S56x18432, .f32⟩
  | .hbm, ⟨3, _⟩ => ⟨S2, .i32⟩
  | .hbm, ⟨4, _⟩ => ⟨S1x256x7168, .f32⟩
  | .hbm, ⟨5, _⟩ => ⟨S1x256x56x128, .f32⟩
  | .hbm, ⟨6, _⟩ => ⟨S_, .f32⟩
  | .hbm, ⟨7, _⟩ => ⟨S1x256x56, .f32⟩
  | .hbm, ⟨8, _⟩ => ⟨S_, .f32⟩
  | .hbm, ⟨9, _⟩ => ⟨S1x256x56, .f32⟩
  | .hbm, ⟨10, _⟩ => ⟨S1x256x56, .f32⟩
  | .hbm, ⟨11, _⟩ => ⟨S_, .f32⟩
  | .hbm, ⟨12, _⟩ => ⟨S1x256x56, .f32⟩
  | .hbm, ⟨13, _⟩ => ⟨S_, .f32⟩
  | .hbm, ⟨14, _⟩ => ⟨S1x256x56, .f32⟩
  | .hbm, ⟨15, _⟩ => ⟨S1x256x56, .f32⟩
  | .hbm, ⟨16, _⟩ => ⟨S1x256x56, .i1⟩
  | .hbm, ⟨17, _⟩ => ⟨S1x256x56, .f32⟩
  | .hbm, ⟨18, _⟩ => ⟨S_, .f32⟩
  | .hbm, ⟨19, _⟩ => ⟨S1x256x56, .f32⟩
  | .hbm, ⟨20, _⟩ => ⟨S1x256x56, .f32⟩
  | .hbm, ⟨21, _⟩ => ⟨S_, .f32⟩
  | .hbm, ⟨22, _⟩ => ⟨S1x256x56, .f32⟩
  | .hbm, ⟨23, _⟩ => ⟨S1x256x56, .f32⟩
  | .hbm, ⟨24, _⟩ => ⟨S1x256x56, .f32⟩
  | .hbm, ⟨25, _⟩ => ⟨S1x256x56, .f32⟩
  | .hbm, ⟨26, _⟩ => ⟨S1x256x56, .f32⟩
  | .hbm, ⟨27, _⟩ => ⟨S1x256x56x1, .f32⟩
  | .hbm, ⟨28, _⟩ => ⟨S1x256x56x128, .f32⟩
  | .hbm, ⟨29, _⟩ => ⟨S1x256x56x128, .f32⟩
  | .hbm, ⟨30, _⟩ => ⟨S1x256x56x128, .f32⟩
  | .hbm, ⟨31, _⟩ => ⟨S1x256x56x1, .f32⟩
  | .hbm, ⟨32, _⟩ => ⟨S1x256x56x128, .f32⟩
  | .hbm, ⟨33, _⟩ => ⟨S1x256x56x128, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S1x256x56x128, .f32⟩
  | .hbm, ⟨38, _⟩ => ⟨S1x256x56x128, .f32⟩
  | .hbm, ⟨39, _⟩ => ⟨S_, .f32⟩
  | .hbm, ⟨40, _⟩ => ⟨S1x256x56x128, .f32⟩
  | .hbm, ⟨41, _⟩ => ⟨S1x256x56x128, .f32⟩
  | .hbm, ⟨42, _⟩ => ⟨S1x256x56x128, .i32⟩
  | .hbm, ⟨43, _⟩ => ⟨S1x256x56x128, .i8⟩
  | .hbm, ⟨44, _⟩ => ⟨S1x256x56, .i32⟩
  | .hbm, ⟨45, _⟩ => ⟨S1x256x56, .i8⟩
  | .hbm, ⟨46, _⟩ => ⟨S1x256x3584x2, .i8⟩
  | .hbm, ⟨47, _⟩ => ⟨S1x256x3584x1, .i8⟩
  | .hbm, ⟨48, _⟩ => ⟨S1x256x3584, .i8⟩
  | .hbm, ⟨49, _⟩ => ⟨S1x256x3584, .i32⟩
  | .hbm, ⟨50, _⟩ => ⟨S1x256x3584x1, .i8⟩
  | .hbm, ⟨51, _⟩ => ⟨S1x256x3584, .i8⟩
  | .hbm, ⟨52, _⟩ => ⟨S1x256x3584, .i32⟩
  | .hbm, ⟨53, _⟩ => ⟨S_, .i32⟩
  | .hbm, ⟨54, _⟩ => ⟨S1x256x3584, .i32⟩
  | .hbm, ⟨55, _⟩ => ⟨S1x256x3584, .i32⟩
  | .hbm, ⟨56, _⟩ => ⟨S1x256x3584, .i32⟩
  | .hbm, ⟨57, _⟩ => ⟨S1x256x3584, .i8⟩
  | .hbm, ⟨58, _⟩ => ⟨S1x256x56x128, .i32⟩
  | .hbm, ⟨59, _⟩ => ⟨S1x256x56, .i32⟩
  | .hbm, ⟨60, _⟩ => ⟨S1x256x56x1, .i32⟩
  | .hbm, ⟨61, _⟩ => ⟨S1x256x56x128, .i32⟩
  | .hbm, ⟨62, _⟩ => ⟨S1x256x56x128, .i32⟩
  | .hbm, ⟨63, _⟩ => ⟨S1x256x56x128, .bf16⟩
  | .hbm, ⟨64, _⟩ => ⟨S1x256x56, .bf16⟩
  | .hbm, ⟨65, _⟩ => ⟨S1x256x56x1, .bf16⟩
  | .hbm, ⟨66, _⟩ => ⟨S1x256x56x128, .bf16⟩
  | .hbm, ⟨67, _⟩ => ⟨S1x256x56x128, .bf16⟩
  | .hbm, ⟨68, _⟩ => ⟨S1x256x56x64x2, .bf16⟩
  | .hbm, ⟨69, _⟩ => ⟨S1x256x2x56x64, .bf16⟩
  | .hbm, ⟨70, _⟩ => ⟨S3584x18432, .i32⟩
  | .hbm, ⟨71, _⟩ => ⟨S1x56x64x18432, .i32⟩
  | .hbm, ⟨72, _⟩ => ⟨S2x1x1x1, .i32⟩
  | .hbm, ⟨73, _⟩ => ⟨S2x56x64x18432, .i32⟩
  | .hbm, ⟨74, _⟩ => ⟨S2x56x64x18432, .i32⟩
  | .hbm, ⟨75, _⟩ => ⟨S2x56x64x18432, .i32⟩
  | .hbm, ⟨76, _⟩ => ⟨S_, .i32⟩
  | .hbm, ⟨77, _⟩ => ⟨S2x56x64x18432, .i32⟩
  | .hbm, ⟨78, _⟩ => ⟨S2x56x64x18432, .i32⟩
  | .hbm, ⟨79, _⟩ => ⟨S56x18432, .bf16⟩
  | .hbm, ⟨80, _⟩ => ⟨S1x56x1x18432, .bf16⟩
  | .hbm, ⟨81, _⟩ => ⟨S2x56x64x18432, .bf16⟩
  | .hbm, ⟨82, _⟩ => ⟨S2x56x64x18432, .bf16⟩
  | .hbm, ⟨83, _⟩ => ⟨S2x56x64x18432, .bf16⟩
  | .hbm, ⟨84, _⟩ => ⟨S1x256x18432, .f32⟩
  | .hbm, ⟨85, _⟩ => ⟨S1x256x18432, .bf16⟩
  | _, _ => ⟨S1x256x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_call0_v0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_cst_6 : Ref sig .tc := ⟨.hbm, 35, rfl⟩
abbrev main_call3_v0 : Ref sig .tc := ⟨.hbm, 36, rfl⟩
abbrev main_call3_v1 : Ref sig .tc := ⟨.hbm, 37, rfl⟩
abbrev main_call3_v2 : Ref sig .tc := ⟨.hbm, 38, rfl⟩
abbrev main_call3_v3 : Ref sig .tc := ⟨.hbm, 39, rfl⟩
abbrev main_call3_v4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_c_8 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩

abbrev nD : Nat := 1
abbrev τ : Topo := Topo.v7x

variable {F : FTy → Type} [FloatOps F]
-- ==== Proof.KbVal.lean ====
/- The values the kernel body computes, named as plain functions of the blocks it reads. (The kernel as printed; the Ki module of the same name is its twin for the idealized kernel.) -/
module

public import proofs.«01_k».proof.Proof.Gen.Kernel.Frame
public import proofs.«01_k».proof.Proof.Gen.Kernel.Loops
public import Idealize.ShloMosaic.Lib.WritesUnit
public import Idealize.ShloMosaic.Lib.VecWindow
public import Idealize.ShloMosaic.Lib.Pointwise

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The values the kernel leaves, as plain functions of what it reads (any interpretation of the float formats). -/

/-- Channels `128 g … 128 g + 127` of every row of the activation: quantisation group `g`. -/
def grp (x : Vec F S256x7168 .bf16) (g : ℕ) : Vec F S256x128 .bf16 := fun y =>
  x (ix2 (y 0) ⟨(128 * g + (y 1).val) % 7168, Nat.mod_lt _ (by decide)⟩)

/-- The dequantised group: (code - zero point) * scale, in bf16. -/
def deq (v : Vec F S256x128 .bf16) : FVec F S256x128 .bf16 := k0_pay9 (k0_pay7 v)

/-- The 64 packed code bytes of a group as 32-bit words: each one code pair. -/
def pk (v : Vec F S256x128 .bf16) : IVec S256x64 32 := k0_pay8 (k0_pay18 (F := F)) v

/-- The dequantised activation, all 56 groups side by side. -/
def Aq (x : Vec F S256x7168 .bf16) : Vec F S256x7168 .bf16 := fun y =>
  deq (grp x ((y 1).val / 128)) (ix2 (y 0) ⟨(y 1).val % 128, Nat.mod_lt _ (by decide)⟩)

/-- The packed codes, all 56 groups side by side. -/
def Cq (x : Vec F S256x7168 .bf16) : Vec F S256x3584 .i8 := fun y =>
  (pk (grp x ((y 1).val / 64)) (ix2 (y 0) ⟨(y 1).val % 64, Nat.mod_lt _ (by decide)⟩)).setWidth 8

/-- The per-group value `f` of lane `g`'s group for the lanes below `n`, the initial constant on the others: what the
    quantising loop carries after `n` groups. -/
def lanes (f : Vec F S256x128 .bf16 → FVec F S256x1 .f32) (x : Vec F S256x7168 .bf16) (n : ℕ) : FVec F S256x128 .f32 := fun y =>
  if (y 1).val < n then f (grp x (y 1).val) (ix2 (y 0) 0) else k0_pay19 (F := F) y

/-- The scales: lane `g < 56` holds group `g`'s. -/
def Sq (x : Vec F S256x7168 .bf16) : Vec F S256x56 .f32 := k0_pay25 (lanes k0_pay4 x 56)

/-- The zero points, as bytes. -/
def Zq (x : Vec F S256x7168 .bf16) : Vec F S256x56 .i8 := k0_pay26 (lanes k0_pay5 x 56)

end Cert.Kernel.Hand

end
-- ==== Proof.KbLoop.lean ====
/- The quantising loop of the kernel body: what each of its trips loads, stores and carries. (The kernel as printed; the Ki module of the same name is its twin for the idealized kernel.) -/
module

public import proofs.«01_k».proof.Proof.Gen.Kernel.Frame
public import proofs.«01_k».proof.Proof.Gen.Kernel.Loops
public import Idealize.ShloMosaic.Lib.WritesUnit
public import Idealize.ShloMosaic.Lib.VecWindow
public import Idealize.ShloMosaic.Lib.Pointwise
public import Idealize.ShloMosaic.Lib.WholeRead
public import proofs.«01_k».proof.Proof.KbVal

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The quantising loop: what one trip yields and stores, and what all trips before `n` have left. -/

/-- A load of group `2 k + r` of the activation, as the loop's trip spells its offsets. -/
theorem load_grp {arg1 : Memref sig .tc .vmem S256x7168 .bf16} (harg1 : arg1.IsWhole) (x : Vec F S256x7168 .bf16)
    (k : Fin k0_t1_loop.trips) (r : Fin 2) (inb) :
    View.readAt (Elt F) arg1.view (Rect.unit (s := S256x7168) (k0_off1 k (BitVec.ofNat 32 r.val)) S256x128.size inb).toLoadRect (harg1.unread x)
      = grp x (2 * k.val + r.val) := by
  have hk : k.val < 28 := Nat.lt_of_lt_of_le k.isLt k0_t1_abs.2.1
  have hr := r.isLt
  funext y
  rw [harg1.readAt_unread]
  unfold grp
  refine congrArg x ?_
  have hoff := k0_off1_eq k r
  have hy : (y 1).val < 128 := (y 1).isLt
  funext a
  apply Fin.ext
  match a with
  | ⟨0, _⟩ =>
    have e : k0_off1 k (BitVec.ofNat 32 r.val) 0 = 0 := by rw [hoff]; rfl
    show k0_off1 k (BitVec.ofNat 32 r.val) 0 + 1 * (y 0).val = (y 0).val
    omega
  | ⟨1, _⟩ =>
    have e : k0_off1 k (BitVec.ofNat 32 r.val) 1 = 256 * k.val + 128 * r.val := by rw [hoff]; rfl
    show k0_off1 k (BitVec.ofNat 32 r.val) 1 + 1 * (y 1).val = (128 * (2 * k.val + r.val) + (y 1).val) % 7168
    omega

/-- What one trip yields: the carried scales and zero points with the two lanes of its groups replaced. -/
theorem trip_R (𝒱 : Variants) (c : Dev nD) (bd : Option 𝒱.V) (i : grid0.Coords) (arg1 : Memref sig .tc .vmem S256x7168 .bf16) (harg1 : arg1.IsWhole) (arg2 : Memref sig .tc .vmem S3584x512 .i8) (harg2 : arg2.IsWhole) (arg3 : Memref sig .tc .vmem S56x512 .f32) (harg3 : arg3.IsWhole) (arg4 : Memref sig .tc .vmem S256x512 .bf16) (harg4 : arg4.IsWhole) (arg5 : Memref sig .tc .vmem S256x3584 .i8) (harg5 : arg5.IsWhole) (arg6 : Memref sig .tc .vmem S256x56 .f32) (harg6 : arg6.IsWhole) (arg7 : Memref sig .tc .vmem S256x56 .i8) (harg7 : arg7.IsWhole) (arg8 : Memref sig .tc .vmem S256x7168 .bf16) (harg8 : arg8.IsWhole) (h1 : k0_cond1 i = 1#1) (v862 : IVec S256x128 32) (x0 : Vec F S256x7168 .bf16) (k : Fin k0_t1_loop.trips) (acc : FVec F S256x128 .f32 × FVec F S256x128 .f32) :
    tripR_k0_t1 (F := F) 𝒱 c bd i arg1 harg1 arg2 harg2 arg3 harg3 arg4 harg4 arg5 harg5 arg6 harg6 arg7 harg7 arg8 harg8 h1 v862 (harg1.unread x0) k acc
      = (k0_pay22 (k0_pay10 v862 acc.1 (Scalar.addi (Scalar.muli 2#32 (Scf.iv 0#32 1#32 k)) 0#32) (k0_pay4 (grp x0 (2 * k.val))))
            (Scalar.addi (Scalar.muli 2#32 (Scf.iv 0#32 1#32 k)) 1#32) (k0_pay4 (grp x0 (2 * k.val + 1))),
         k0_pay23 (k0_pay11 v862 acc.2 (Scalar.addi (Scalar.muli 2#32 (Scf.iv 0#32 1#32 k)) 0#32) (k0_pay5 (grp x0 (2 * k.val))))
            (Scalar.addi (Scalar.muli 2#32 (Scf.iv 0#32 1#32 k)) 1#32) (k0_pay5 (grp x0 (2 * k.val + 1)))) := by
  have h0 := load_grp harg1 x0 k 0 (k0_off1_inb i k h1 0)
  have h1' := load_grp harg1 x0 k 1 (k0_off1_inb i k h1 1)
  rw [show 2 * k.val = 2 * k.val + (0 : Fin 2).val from rfl, ← h0, show 2 * k.val + (0 : Fin 2).val + 1 = 2 * k.val + (1 : Fin 2).val from rfl, ← h1']
  unfold tripR_k0_t1
  unfold trip_k0_t1
  dsimp only
  sl_unfold_words
  rfl

/-- The pieces one trip stores: the packed codes of its two groups, and their two dequantised groups. -/
theorem trip_L (𝒱 : Variants) (c : Dev nD) (bd : Option 𝒱.V) (i : grid0.Coords) (arg1 : Memref sig .tc .vmem S256x7168 .bf16) (harg1 : arg1.IsWhole) (arg2 : Memref sig .tc .vmem S3584x512 .i8) (harg2 : arg2.IsWhole) (arg3 : Memref sig .tc .vmem S56x512 .f32) (harg3 : arg3.IsWhole) (arg4 : Memref sig .tc .vmem S256x512 .bf16) (harg4 : arg4.IsWhole) (arg5 : Memref sig .tc .vmem S256x3584 .i8) (harg5 : arg5.IsWhole) (arg6 : Memref sig .tc .vmem S256x56 .f32) (harg6 : arg6.IsWhole) (arg7 : Memref sig .tc .vmem S256x56 .i8) (harg7 : arg7.IsWhole) (arg8 : Memref sig .tc .vmem S256x7168 .bf16) (harg8 : arg8.IsWhole) (h1 : k0_cond1 i = 1#1) (v862 : IVec S256x128 32) (x0 : Vec F S256x7168 .bf16) (k : Fin k0_t1_loop.trips) (acc : FVec F S256x128 .f32 × FVec F S256x128 .f32) :
    tripL_k0_t1 (F := F) 𝒱 c bd i arg1 harg1 arg2 harg2 arg3 harg3 arg4 harg4 arg5 harg5 arg6 harg6 arg7 harg7 arg8 harg8 h1 v862 (harg1.unread x0) k acc
      = ([⟨Rect.unit (s := S256x3584) (k0_off2 k) S256x128.size (k0_off2_inb i k h1),
            trunci 8 (concatenate S256x128 1 [⟨S256x64, pk (grp x0 (2 * k.val))⟩, ⟨S256x64, pk (grp x0 (2 * k.val + 1))⟩] concatenates_S256x64_S256x64_S256x128_d1) natLt_8_32⟩],
         [⟨Rect.unit (s := S256x7168) (k0_off1 k 1#32) S256x128.size (k0_off1_inb i k h1 1), deq (grp x0 (2 * k.val + 1))⟩,
          ⟨Rect.unit (s := S256x7168) (k0_off1 k 0#32) S256x128.size (k0_off1_inb i k h1 0), deq (grp x0 (2 * k.val))⟩]) := by
  have h0 := load_grp harg1 x0 k 0 (k0_off1_inb i k h1 0)
  have h1' := load_grp harg1 x0 k 1 (k0_off1_inb i k h1 1)
  rw [show 2 * k.val = 2 * k.val + (0 : Fin 2).val from rfl, ← h0, show 2 * k.val + (0 : Fin 2).val + 1 = 2 * k.val + (1 : Fin 2).val from rfl, ← h1']
  unfold tripL_k0_t1
  unfold trip_k0_t1
  dsimp only
  sl_unfold_words
  rfl

/-- Selecting a column into lane `n`. -/
theorem sel_lane (acc : FVec F S256x128 .f32) (n : ℕ) (hn : n < 128) (v : FVec F S256x1 .f32) (y : S256x128.Idx) :
    k0_pay22 acc (BitVec.ofNat 32 n) v y = if (y 1).val = n then v (ix2 (y 0) 0) else acc y := by
  idx_vars y
  have hb := y1.isLt
  pointwise [k0_pay22]
  rw [Idealize.ShloMosaic.WordCmp.cmpi_eq_ofNat (by omega) (by omega)]
  by_cases h : y1.val = n <;> simp [h, Scalar.select]

/-- The first group of trip `k` is group `2k`, as a word. -/
theorem word0 (k : Fin k0_t1_loop.trips) : Scalar.addi (Scalar.muli 2#32 (Scf.iv 0#32 1#32 k)) 0#32 = BitVec.ofNat 32 (2 * k.val) := by
  revert k; decide +kernel

/-- The second group of trip `k` is group `2k + 1`, as a word. -/
theorem word1 (k : Fin k0_t1_loop.trips) : Scalar.addi (Scalar.muli 2#32 (Scf.iv 0#32 1#32 k)) 1#32 = BitVec.ofNat 32 (2 * k.val + 1) := by
  revert k; decide +kernel

/-- One trip adds its two groups' lanes. -/
theorem lanes_step (f : Vec F S256x128 .bf16 → FVec F S256x1 .f32) (x : Vec F S256x7168 .bf16) (k : Fin k0_t1_loop.trips) :
    k0_pay22 (k0_pay22 (lanes f x (2 * k.val)) (BitVec.ofNat 32 (2 * k.val)) (f (grp x (2 * k.val))))
      (BitVec.ofNat 32 (2 * k.val + 1)) (f (grp x (2 * k.val + 1))) = lanes f x (2 * (k.val + 1)) := by
  have hk : k.val < 28 := Nat.lt_of_lt_of_le k.isLt k0_t1_abs.2.1
  funext y
  rw [sel_lane _ _ (by omega), sel_lane _ _ (by omega)]
  unfold lanes
  by_cases h1 : (y 1).val = 2 * k.val + 1
  · rw [if_pos h1, if_pos (by omega), h1]
  by_cases h0 : (y 1).val = 2 * k.val
  · rw [if_neg h1, if_pos h0, if_pos (by omega), h0]
  rw [if_neg h1, if_neg h0]
  by_cases h : (y 1).val < 2 * k.val
  · rw [if_pos h, if_pos (by omega)]
  · rw [if_neg h, if_neg (by omega)]

/-- The carried scales and zero points before trip `n`. -/
theorem st_carried (𝒱 : Variants) (c : Dev nD) (bd : Option 𝒱.V) (i : grid0.Coords) (arg1 : Memref sig .tc .vmem S256x7168 .bf16) (harg1 : arg1.IsWhole) (arg2 : Memref sig .tc .vmem S3584x512 .i8) (harg2 : arg2.IsWhole) (arg3 : Memref sig .tc .vmem S56x512 .f32) (harg3 : arg3.IsWhole) (arg4 : Memref sig .tc .vmem S256x512 .bf16) (harg4 : arg4.IsWhole) (arg5 : Memref sig .tc .vmem S256x3584 .i8) (harg5 : arg5.IsWhole) (arg6 : Memref sig .tc .vmem S256x56 .f32) (harg6 : arg6.IsWhole) (arg7 : Memref sig .tc .vmem S256x56 .i8) (harg7 : arg7.IsWhole) (arg8 : Memref sig .tc .vmem S256x7168 .bf16) (harg8 : arg8.IsWhole) (h1 : k0_cond1 i = 1#1) (x0 : Vec F S256x7168 .bf16) (n : ℕ) (hn : n ≤ 28) :
    (st_k0_t1 (F := F) 𝒱 c bd i arg1 harg1 arg2 harg2 arg3 harg3 arg4 harg4 arg5 harg5 arg6 harg6 arg7 harg7 arg8 harg8 h1 (iota .tc S256x128 32 [1] iota_S256x128_d1_w32) (harg1.unread x0) (k0_pay19 (F := F), k0_pay19 (F := F)) n).1
      = (lanes k0_pay4 x0 (2 * n), lanes k0_pay5 x0 (2 * n)) := by
  induction n with
  | zero =>
    rw [st_k0_t1_zero]
    have h : ∀ f, lanes (F := F) f x0 (2 * 0) = k0_pay19 := fun f => funext fun y => if_neg (Nat.not_lt_zero _)
    rw [h, h]
  | succ n ih =>
    have hlt : n < k0_t1_loop.trips := by have : k0_t1_loop.trips = 28 := by decide +kernel
                                          omega
    have hs := st_k0_t1_succ (F := F) 𝒱 c bd i arg1 harg1 arg2 harg2 arg3 harg3 arg4 harg4 arg5 harg5 arg6 harg6 arg7 harg7 arg8 harg8 h1 (iota .tc S256x128 32 [1] iota_S256x128_d1_w32) (harg1.unread x0) (k0_pay19 (F := F), k0_pay19 (F := F)) ⟨n, hlt⟩
    rw [trip_R, word0, word1] at hs
    refine (congrArg Prod.fst hs).trans ?_
    dsimp only
    rw [ih (by omega)]
    exact congrArg₂ Prod.mk (lanes_step k0_pay4 x0 ⟨n, hlt⟩) (lanes_step k0_pay5 x0 ⟨n, hlt⟩)

/-- A column inside the newest piece, a block of 128 whole columns from column `o`, reads the piece. -/
theorem cols_hit {κ : Kind} {sp : Space} {N : ℕ} {e : EltTy} (v : View sig κ sp ⟨2, ![256, N]⟩ e) (f : v.ty.Contents (Elt F)) (o : ℕ)
    {off : Fin 2 → ℕ} (hoff : off = ![0, o]) (inb : ∀ a : Fin 2, off a + (![256, 128] : Fin 2 → ℕ) a ≤ (![256, N] : Fin 2 → ℕ) a)
    (w : (⟨2, ![256, 128]⟩ : Shape).Idx → Elt F e) (L : List (View.Piece (Elt F) ⟨2, ![256, N]⟩ e)) (y : (⟨2, ![256, N]⟩ : Shape).Idx)
    (j : Fin 128) (hj : (y 1).val = o + j.val) :
    v.read (Elt F) (v.writes (Elt F) f (⟨Rect.unit (s := ⟨2, ![256, N]⟩) off ![256, 128] inb, w⟩ :: L)) y = w (ix2 (y 0) j) :=
  View.read_writes_cons_unit_of_mem v f inb w L y (ix2 (y 0) j) hoff fun a => by
    match a with
    | ⟨0, _⟩ => show (y 0).val = 0 + (y 0).val; omega
    | ⟨1, _⟩ => exact hj

/-- A column outside it reads the rest. -/
theorem cols_miss {κ : Kind} {sp : Space} {N : ℕ} {e : EltTy} (v : View sig κ sp ⟨2, ![256, N]⟩ e) (f : v.ty.Contents (Elt F)) (o : ℕ)
    {off : Fin 2 → ℕ} (hoff : off = ![0, o]) (inb : ∀ a : Fin 2, off a + (![256, 128] : Fin 2 → ℕ) a ≤ (![256, N] : Fin 2 → ℕ) a)
    (w : (⟨2, ![256, 128]⟩ : Shape).Idx → Elt F e) (L : List (View.Piece (Elt F) ⟨2, ![256, N]⟩ e)) (y : (⟨2, ![256, N]⟩ : Shape).Idx)
    (hj : (y 1).val < o ∨ o + 128 ≤ (y 1).val) :
    v.read (Elt F) (v.writes (Elt F) f (⟨Rect.unit (s := ⟨2, ![256, N]⟩) off ![256, 128] inb, w⟩ :: L)) y = v.read (Elt F) (v.writes (Elt F) f L) y :=
  View.read_writes_cons_unit_of_not_mem v f inb w L y hoff (1 : Fin 2) hj

/-- The dequantised activation after the trips before `n`: columns below `256 n` hold it, the others what they held. -/
theorem st_deq (𝒱 : Variants) (c : Dev nD) (bd : Option 𝒱.V) (i : grid0.Coords) (arg1 : Memref sig .tc .vmem S256x7168 .bf16) (harg1 : arg1.IsWhole) (arg2 : Memref sig .tc .vmem S3584x512 .i8) (harg2 : arg2.IsWhole) (arg3 : Memref sig .tc .vmem S56x512 .f32) (harg3 : arg3.IsWhole) (arg4 : Memref sig .tc .vmem S256x512 .bf16) (harg4 : arg4.IsWhole) (arg5 : Memref sig .tc .vmem S256x3584 .i8) (harg5 : arg5.IsWhole) (arg6 : Memref sig .tc .vmem S256x56 .f32) (harg6 : arg6.IsWhole) (arg7 : Memref sig .tc .vmem S256x56 .i8) (harg7 : arg7.IsWhole) (arg8 : Memref sig .tc .vmem S256x7168 .bf16) (harg8 : arg8.IsWhole) (h1 : k0_cond1 i = 1#1) (v862 : IVec S256x128 32) (x0 : Vec F S256x7168 .bf16) (init) (G : BufTy.Contents (Elt F) arg8.view.ty) (n : ℕ) (hn : n ≤ 28) (y : S256x7168.Idx) :
    arg8.view.read (Elt F) (arg8.view.writes (Elt F) G (st_k0_t1 (F := F) 𝒱 c bd i arg1 harg1 arg2 harg2 arg3 harg3 arg4 harg4 arg5 harg5 arg6 harg6 arg7 harg7 arg8 harg8 h1 v862 (harg1.unread x0) init n).2.2) y
      = if (y 1).val < 256 * n then Aq x0 y else arg8.view.read (Elt F) G y := by
  induction n with
  | zero => rw [if_neg (by omega)]; rfl
  | succ n ih =>
    have hlt : n < k0_t1_loop.trips := by have : k0_t1_loop.trips = 28 := by decide +kernel
                                          omega
    have hs := st_k0_t1_succ (F := F) 𝒱 c bd i arg1 harg1 arg2 harg2 arg3 harg3 arg4 harg4 arg5 harg5 arg6 harg6 arg7 harg7 arg8 harg8 h1 v862 (harg1.unread x0) init ⟨n, hlt⟩
    rw [trip_L] at hs
    have hs2 := congrArg (fun p => p.2.2) hs
    dsimp only at hs2
    rw [hs2]
    have o0 := k0_off1_eq ⟨n, hlt⟩ 0
    have o1 := k0_off1_eq ⟨n, hlt⟩ 1
    have hy : (y 1).val < 7168 := (y 1).isLt
    dsimp only [List.cons_append, List.nil_append]
    by_cases hb1 : 256 * n + 128 ≤ (y 1).val ∧ (y 1).val < 256 * n + 256
    · refine (cols_hit _ _ _ o1 _ _ _ y ⟨(y 1).val - (256 * n + 128), by omega⟩ (by show (y 1).val = (256 * n + 128) + ((y 1).val - (256 * n + 128)); omega)).trans ?_
      rw [if_pos (by omega)]
      unfold Aq
      rw [show (y 1).val / 128 = 2 * n + 1 by omega]
      exact congrArg (deq (grp x0 (2 * n + 1))) (congrArg (ix2 (y 0)) (Fin.ext (by show (y 1).val - (256 * n + 128) = (y 1).val % 128; omega)))
    refine (cols_miss _ _ _ o1 _ _ _ y (by simp only [Fin.val_zero, Fin.val_one]; omega)).trans ?_
    by_cases hb0 : 256 * n ≤ (y 1).val ∧ (y 1).val < 256 * n + 128
    · refine (cols_hit _ _ _ o0 _ _ _ y ⟨(y 1).val - 256 * n, by omega⟩ (by show (y 1).val = 256 * n + ((y 1).val - 256 * n); omega)).trans ?_
      rw [if_pos (by omega)]
      unfold Aq
      rw [show (y 1).val / 128 = 2 * n by omega]
      exact congrArg (deq (grp x0 (2 * n))) (congrArg (ix2 (y 0)) (Fin.ext (by show (y 1).val - 256 * n = (y 1).val % 128; omega)))
    refine (cols_miss _ _ _ o0 _ _ _ y (by simp only [Fin.val_zero, Fin.val_one]; omega)).trans ?_
    rw [ih (by omega)]
    by_cases h : (y 1).val < 256 * n
    · rw [if_pos h, if_pos (by omega)]
    · rw [if_neg h, if_neg (by omega)]

/-- The packed codes of a trip's two groups side by side, read at a byte. -/
theorem pk_pair (v w : IVec S256x64 32) (y : S256x128.Idx) :
    trunci 8 (concatenate S256x128 1 [⟨S256x64, v⟩, ⟨S256x64, w⟩] concatenates_S256x64_S256x64_S256x128_d1) natLt_8_32 y
      = if (y 1).val < 64 then (v (ix2 (y 0) ⟨(y 1).val % 64, Nat.mod_lt _ (by decide)⟩)).setWidth 8
        else (w (ix2 (y 0) ⟨(y 1).val % 64, Nat.mod_lt _ (by decide)⟩)).setWidth 8 := by
  idx_vars y
  have hb := y1.isLt
  by_cases h : y1.val < 64
  · pointwise [h]
    exact congrArg (fun j => (v (ix2 y0 j)).setWidth 8) (Fin.ext (by show y1.val = y1.val % 64; omega))
  · pointwise [h]
    exact congrArg (fun j => (w (ix2 y0 j)).setWidth 8) (Fin.ext (by show y1.val - 64 = y1.val % 64; omega))

/-- The packed codes after the trips before `n`: columns below `128 n` hold them, the others what they held. -/
theorem st_codes (𝒱 : Variants) (c : Dev nD) (bd : Option 𝒱.V) (i : grid0.Coords) (arg1 : Memref sig .tc .vmem S256x7168 .bf16) (harg1 : arg1.IsWhole) (arg2 : Memref sig .tc .vmem S3584x512 .i8) (harg2 : arg2.IsWhole) (arg3 : Memref sig .tc .vmem S56x512 .f32) (harg3 : arg3.IsWhole) (arg4 : Memref sig .tc .vmem S256x512 .bf16) (harg4 : arg4.IsWhole) (arg5 : Memref sig .tc .vmem S256x3584 .i8) (harg5 : arg5.IsWhole) (arg6 : Memref sig .tc .vmem S256x56 .f32) (harg6 : arg6.IsWhole) (arg7 : Memref sig .tc .vmem S256x56 .i8) (harg7 : arg7.IsWhole) (arg8 : Memref sig .tc .vmem S256x7168 .bf16) (harg8 : arg8.IsWhole) (h1 : k0_cond1 i = 1#1) (v862 : IVec S256x128 32) (x0 : Vec F S256x7168 .bf16) (init) (G : BufTy.Contents (Elt F) arg5.view.ty) (n : ℕ) (hn : n ≤ 28) (y : S256x3584.Idx) :
    arg5.view.read (Elt F) (arg5.view.writes (Elt F) G (st_k0_t1 (F := F) 𝒱 c bd i arg1 harg1 arg2 harg2 arg3 harg3 arg4 harg4 arg5 harg5 arg6 harg6 arg7 harg7 arg8 harg8 h1 v862 (harg1.unread x0) init n).2.1) y
      = if (y 1).val < 128 * n then Cq x0 y else arg5.view.read (Elt F) G y := by
  induction n with
  | zero => rw [if_neg (by omega)]; rfl
  | succ n ih =>
    have hlt : n < k0_t1_loop.trips := by have : k0_t1_loop.trips = 28 := by decide +kernel
                                          omega
    have hs := st_k0_t1_succ (F := F) 𝒱 c bd i arg1 harg1 arg2 harg2 arg3 harg3 arg4 harg4 arg5 harg5 arg6 harg6 arg7 harg7 arg8 harg8 h1 v862 (harg1.unread x0) init ⟨n, hlt⟩
    rw [trip_L] at hs
    have hs2 := congrArg (fun p => p.2.1) hs
    dsimp only at hs2
    rw [hs2]
    have o0 := k0_off2_eq ⟨n, hlt⟩
    have hy : (y 1).val < 3584 := (y 1).isLt
    dsimp only [List.cons_append, List.nil_append]
    by_cases hb0 : 128 * n ≤ (y 1).val ∧ (y 1).val < 128 * n + 128
    · refine (cols_hit _ _ _ o0 _ _ _ y ⟨(y 1).val - 128 * n, by omega⟩ (by show (y 1).val = 128 * n + ((y 1).val - 128 * n); omega)).trans ?_
      rw [if_pos (by omega)]
      refine (pk_pair _ _ _).trans ?_
      unfold Cq
      show (if (y 1).val - 128 * n < 64 then _ else _) = _
      by_cases h : (y 1).val - 128 * n < 64
      · rw [if_pos h, show (y 1).val / 64 = 2 * n by omega]
        exact congrArg (fun j => (pk (grp x0 (2 * n)) (ix2 (y 0) j)).setWidth 8) (Fin.ext (by show ((y 1).val - 128 * n) % 64 = (y 1).val % 64; omega))
      · rw [if_neg h, show (y 1).val / 64 = 2 * n + 1 by omega]
        exact congrArg (fun j => (pk (grp x0 (2 * n + 1)) (ix2 (y 0) j)).setWidth 8) (Fin.ext (by show ((y 1).val - 128 * n) % 64 = (y 1).val % 64; omega))
    refine (cols_miss _ _ _ o0 _ _ _ y (by simp only [Fin.val_zero, Fin.val_one]; omega)).trans ?_
    rw [ih (by omega)]
    by_cases h : (y 1).val < 128 * n
    · rw [if_pos h, if_pos (by omega)]
    · rw [if_neg h, if_neg (by omega)]

end Cert.Kernel.Hand

end
-- ==== Proof.KbChain.lean ====
/- The 28 K tiles of the product, chained: what the accumulator holds after each tile. (The kernel as printed; the Ki module of the same name is its twin for the idealized kernel.) -/
module

public import proofs.«01_k».proof.Proof.Gen.Kernel.Frame
public import proofs.«01_k».proof.Proof.Gen.Kernel.Loops
public import Idealize.ShloMosaic.Lib.WritesUnit
public import Idealize.ShloMosaic.Lib.VecWindow
public import Idealize.ShloMosaic.Lib.Pointwise
public import Idealize.ShloMosaic.Lib.WholeRead

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The matmul's arithmetic: one K tile's step and the chain of all 28. -/

/-- Rows `o … o + 127` of the packed weights. -/
def prows (x : Vec F S3584x512 .i8) (o : ℕ) : Vec F S128x512 .i8 := fun y => x (ix2 ⟨(o + (y 0).val) % 3584, Nat.mod_lt _ (by decide)⟩ (y 1))
/-- Rows `o`, `o + 1` of the weight scales. -/
def wrows (x : Vec F S56x512 .f32) (o : ℕ) : Vec F S2x512 .f32 := fun y => x (ix2 ⟨(o + (y 0).val) % 56, Nat.mod_lt _ (by decide)⟩ (y 1))
/-- Channels `o … o + 255` of the dequantised activation. -/
def acols (x : Vec F S256x7168 .bf16) (o : ℕ) : Vec F S256x256 .bf16 := fun y => x (ix2 (y 0) ⟨(o + (y 1).val) % 7168, Nat.mod_lt _ (by decide)⟩)

/-- A load of a band of rows of the packed weights reads those rows of the block. -/
theorem ld_prows {arg : Memref sig .tc .vmem S3584x512 .i8} (h : arg.IsWhole) (x : Vec F S3584x512 .i8) (o : ℕ) (inb) :
    View.readAt (Elt F) arg.view (Rect.unit (s := S3584x512) ![o, 0] ![128, 512] inb).toLoadRect (h.unread x) = prows x o := by
  funext y
  rw [h.readAt_unread]
  unfold prows
  refine congrArg x (funext fun a => Fin.ext ?_)
  have hi : o + 128 ≤ 3584 := inb 0
  have hy : (y 0).val < 128 := (y 0).isLt
  match a with
  | ⟨0, _⟩ => show o + 1 * (y 0).val = (o + (y 0).val) % 3584; omega
  | ⟨1, _⟩ => show 0 + 1 * (y 1).val = (y 1).val; omega

/-- A load of a row of the weight scales reads that row of the block. -/
theorem ld_wrows {arg : Memref sig .tc .vmem S56x512 .f32} (h : arg.IsWhole) (x : Vec F S56x512 .f32) (o : ℕ) (inb) :
    View.readAt (Elt F) arg.view (Rect.unit (s := S56x512) ![o, 0] ![2, 512] inb).toLoadRect (h.unread x) = wrows x o := by
  funext y
  rw [h.readAt_unread]
  unfold wrows
  refine congrArg x (funext fun a => Fin.ext ?_)
  have hi : o + 2 ≤ 56 := inb 0
  have hy : (y 0).val < 2 := (y 0).isLt
  match a with
  | ⟨0, _⟩ => show o + 1 * (y 0).val = (o + (y 0).val) % 56; omega
  | ⟨1, _⟩ => show 0 + 1 * (y 1).val = (y 1).val; omega

/-- A load of a band of columns of the scratch reads those columns of the dequantised activations. -/
theorem ld_acols {arg : Memref sig .tc .vmem S256x7168 .bf16} (h : arg.IsWhole) (x : Vec F S256x7168 .bf16) (o : ℕ) (inb) :
    View.readAt (Elt F) arg.view (Rect.unit (s := S256x7168) ![0, o] ![256, 256] inb).toLoadRect (h.unread x) = acols x o := by
  funext y
  rw [h.readAt_unread]
  unfold acols
  refine congrArg x (funext fun a => Fin.ext ?_)
  have hi : o + 256 ≤ 7168 := inb 1
  have hy : (y 1).val < 256 := (y 1).isLt
  match a with
  | ⟨0, _⟩ => show 0 + 1 * (y 0).val = (y 0).val; omega
  | ⟨1, _⟩ => show o + 1 * (y 1).val = (o + (y 1).val) % 7168; omega

/-- A store of a whole buffer leaves the value stored. -/
theorem store_whole {κ : Kind} {sp : Space} {a b : ℕ} {e : EltTy} (v : View sig κ sp ⟨2, ![a, b]⟩ e) (f : v.ty.Contents (Elt F))
    (inb) (w : (⟨2, ![a, b]⟩ : Shape).Idx → Elt F e) :
    v.read (Elt F) (v.writes (Elt F) f [⟨Rect.unit (s := ⟨2, ![a, b]⟩) ![0, 0] ![a, b] inb, w⟩]) = w := by
  funext y
  exact View.read_writes_cons_unit_of_mem v f inb w [] y y rfl fun d => by
    match d with
    | ⟨0, _⟩ => show (y 0).val = 0 + (y 0).val; omega
    | ⟨1, _⟩ => show (y 1).val = 0 + (y 1).val; omega

/-- The dequantised K tile: the 128 packed bytes rows unpacked into 256 signed code rows, each half times its scale row. -/
def wt (v4 : Vec F S128x512 .i8) (v20 : Vec F S2x512 .f32) : FVec F S256x512 .bf16 :=
  have v5 : IVec S128x512 32 := extui 32 v4 natLt_8_32
  have v6 : IVec S128x512 32 := broadcast S128x512 28#32
  have v7 : IVec S128x512 32 := shli v5 v6
  have v8 : IVec S128x512 32 := broadcast S128x512 28#32
  have v9 : IVec S128x512 32 := shrsi v7 v8
  have v10 : IVec S128x512 32 := broadcast S128x512 24#32
  have v11 : IVec S128x512 32 := shli v5 v10
  have v12 : IVec S128x512 32 := broadcast S128x512 28#32
  have v13 : IVec S128x512 32 := shrsi v11 v12
  have v14 : IVec S128x1x512 32 := shapeCast S128x1x512 v9 shapeCasts_S128x512_S128x1x512
  have v15 : IVec S128x1x512 32 := shapeCast S128x1x512 v13 shapeCasts_S128x512_S128x1x512
  have v16 : IVec S128x2x512 32 := concatenate S128x2x512 1 [⟨S128x1x512, v14⟩, ⟨S128x1x512, v15⟩] concatenates_S128x1x512_S128x1x512_S128x2x512_d1
  have v17 : IVec S256x512 32 := shapeCast S256x512 v16 shapeCasts_S128x2x512_S256x512
  have v18 : IVec S256x512 4 := trunci 4 v17 natLt_4_32
  have v19 : FVec F S256x512 .bf16 := sitofp .bf16 v18
  have v21 : FVec F S2x512 .bf16 := truncf .bf16 v20 bitsLt_bf16_f32
  have v22 : FVec F S128x512 .bf16 := extractStridedSlice S128x512 ![0, 0] v19 slices_S256x512_o0_0_S128x512
  have v23 : FVec F S1x512 .bf16 := extractStridedSlice S1x512 ![0, 0] v21 slices_S2x512_o0_0_S1x512
  have v24 : FVec F S128x512 .bf16 := broadcastTo S128x512 v23 broadcasts_S1x512_S128x512
  have v25 : FVec F S128x512 .bf16 := mulf v22 v24
  have v26 : FVec F S128x512 .bf16 := extractStridedSlice S128x512 ![128, 0] v19 slices_S256x512_o128_0_S128x512
  have v27 : FVec F S1x512 .bf16 := extractStridedSlice S1x512 ![1, 0] v21 slices_S2x512_o1_0_S1x512
  have v28 : FVec F S128x512 .bf16 := broadcastTo S128x512 v27 broadcasts_S1x512_S128x512
  have v29 : FVec F S128x512 .bf16 := mulf v26 v28
  concatenate S256x512 0 [⟨S128x512, v25⟩, ⟨S128x512, v29⟩] concatenates_S128x512_S128x512_S256x512_d0

/-- One K tile: the accumulator plus the activation tile times the dequantised weight tile. -/
def stepK (a : FVec F S256x512 .f32) (p : Vec F S128x512 .i8) (w : Vec F S2x512 .f32) (x : Vec F S256x256 .bf16) : FVec F S256x512 .f32 :=
  addf a (matmul dot_S256x256_S256x512_S256x512_1_0_0_1_n_n none x (wt p w) (constant S256x512 .f32 0x00000000#32))

/-- K tile `k`'s step on the whole operands. -/
def stp (x1 : Vec F S3584x512 .i8) (x2 : Vec F S56x512 .f32) (A : Vec F S256x7168 .bf16) (k : ℕ) (a : FVec F S256x512 .f32) : FVec F S256x512 .f32 :=
  stepK a (prows x1 (128 * k)) (wrows x2 (2 * k)) (acols A (256 * k))

/-- The accumulator after the first `n` K tiles. -/
def accN (x1 : Vec F S3584x512 .i8) (x2 : Vec F S56x512 .f32) (A : Vec F S256x7168 .bf16) : ℕ → FVec F S256x512 .f32
  | 0 => broadcast S256x512 (Scalar.ofBits (F := F) .f32 0x00000000#32)
  | n + 1 => stp x1 x2 A n (accN x1 x2 A n)

/-- The block of the output the body stores: all 28 K tiles, rounded to bf16. -/
def Yb (x1 : Vec F S3584x512 .i8) (x2 : Vec F S56x512 .f32) (A : Vec F S256x7168 .bf16) : FVec F S256x512 .bf16 :=
  truncf .bf16 (accN x1 x2 A 28) bitsLt_bf16_f32

end Cert.Kernel.Hand

end
-- ==== Proof.KbBody.lean ====
/- The kernel body at one grid point: what it reads, and what it leaves in its windows and scratch. (The kernel as printed; the Ki module of the same name is its twin for the idealized kernel.) -/
module

public import proofs.«01_k».proof.Proof.Gen.Kernel.Frame
public import proofs.«01_k».proof.Proof.Gen.Kernel.Loops
public import Idealize.ShloMosaic.Lib.WritesUnit
public import Idealize.ShloMosaic.Lib.VecWindow
public import Idealize.ShloMosaic.Lib.Pointwise
public import Idealize.ShloMosaic.Lib.WholeRead
public import proofs.«01_k».proof.Proof.KbLoop
public import proofs.«01_k».proof.Proof.KbChain

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The body's run at the points after the first: the quantising region is skipped. -/

set_option maxHeartbeats 1000000 in
/-- At a point after the first the body reads its weight blocks and the dequantised activation and stores the output block. -/
theorem runB (c : Dev nD) (i : grid0.Coords) (arg1 : Memref sig .tc .vmem S256x7168 .bf16) (harg1 : arg1.IsWhole) (arg2 : Memref sig .tc .vmem S3584x512 .i8) (harg2 : arg2.IsWhole) (arg3 : Memref sig .tc .vmem S56x512 .f32) (harg3 : arg3.IsWhole) (arg4 : Memref sig .tc .vmem S256x512 .bf16) (harg4 : arg4.IsWhole) (arg5 : Memref sig .tc .vmem S256x3584 .i8) (harg5 : arg5.IsWhole) (arg6 : Memref sig .tc .vmem S256x56 .f32) (harg6 : arg6.IsWhole) (arg7 : Memref sig .tc .vmem S256x56 .i8) (harg7 : arg7.IsWhole) (arg8 : Memref sig .tc .vmem S256x7168 .bf16) (harg8 : arg8.IsWhole) (hc0 : ¬ k0_cond1 i = 1#1)
    (x1 : Vec F S3584x512 .i8) (x2 : Vec F S56x512 .f32) (A : Vec F S256x7168 .bf16) (E : Set ℕ) (K : PUnit → sProp 𝕄) :
    iprop(owns (c : Thread nD τ) arg2 fullShare x1 ∗ owns (c : Thread nD τ) arg3 fullShare x2 ∗ (∃ d, owns (c : Thread nD τ) arg4 fullShare d) ∗ owns (c : Thread nD τ) arg8 fullShare A
        ∗ (iprop(owns (c : Thread nD τ) arg2 fullShare x1 ∗ owns (c : Thread nD τ) arg3 fullShare x2 ∗ owns (c : Thread nD τ) arg4 fullShare (Yb x1 x2 A) ∗ owns (c : Thread nD τ) arg8 fullShare A) -∗ K ⟨⟩))
      ⊢ wp frame (wpE (defs₀ (F := F)) Variants.none c none) E (cc0__body i arg1 harg1 arg2 harg2 arg3 harg3 arg4 harg4 arg5 harg5 arg6 harg6 arg7 harg7 arg8 harg8) K := by
  simp only [cc0__body_eq_skeleton]; unfold cc0__body_skel
  simp only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
  unfold owns
  iintro ⟨⟨%f1, %hf1, H1⟩, ⟨%f2, %hf2, H2⟩, ⟨%d3, %f3, -, H3⟩, ⟨%fs0, %hfs0, HS0⟩, Hk⟩
  obtain rfl := harg2.eq_unread hf1; obtain rfl := harg3.eq_unread hf2; obtain rfl := harg8.eq_unread hfs0
  sl_exec (disch := first | sl_exact hc0)
  sl_step
  iapply Hk
  isplitl [H1]
  · iexists _; isplitr; · ipureintro; exact harg2.read_unread _
    iexact H1
  isplitl [H2]
  · iexists _; isplitr; · ipureintro; exact harg3.read_unread _
    iexact H2
  isplitl [H3]
  · iexists _; isplitr; swap; · iexact H3
    ipureintro
    refine (store_whole _ _ _ _).trans ?_
    sl_unfold_words
    simp only [ld_prows, ld_wrows, ld_acols]
    rfl
  iexists _; isplitr; · ipureintro; exact harg8.read_unread _
  iexact HS0

/-- The quantising loop makes 28 trips, of two groups each. -/
theorem trips28 : Scf.trips k0_t1_loop.lb k0_t1_loop.ub k0_t1_loop.st = 28 := by decide +kernel

/-- After the quantising loop the scratch holds the dequantised activation. -/
theorem arg8_after (𝒱 : Variants) (c : Dev nD) (bd : Option 𝒱.V) (i : grid0.Coords) (arg1 : Memref sig .tc .vmem S256x7168 .bf16) (harg1 : arg1.IsWhole) (arg2 : Memref sig .tc .vmem S3584x512 .i8) (harg2 : arg2.IsWhole) (arg3 : Memref sig .tc .vmem S56x512 .f32) (harg3 : arg3.IsWhole) (arg4 : Memref sig .tc .vmem S256x512 .bf16) (harg4 : arg4.IsWhole) (arg5 : Memref sig .tc .vmem S256x3584 .i8) (harg5 : arg5.IsWhole) (arg6 : Memref sig .tc .vmem S256x56 .f32) (harg6 : arg6.IsWhole) (arg7 : Memref sig .tc .vmem S256x56 .i8) (harg7 : arg7.IsWhole) (arg8 : Memref sig .tc .vmem S256x7168 .bf16) (harg8 : arg8.IsWhole) (h1 : k0_cond1 i = 1#1) (x0 : Vec F S256x7168 .bf16) (G : BufTy.Contents (Elt F) arg8.view.ty) :
    arg8.view.writes (Elt F) G (st_k0_t1 (F := F) 𝒱 c bd i arg1 harg1 arg2 harg2 arg3 harg3 arg4 harg4 arg5 harg5 arg6 harg6 arg7 harg7 arg8 harg8 h1 (iota .tc S256x128 32 [1] iota_S256x128_d1_w32) (harg1.unread x0) (k0_pay19 (F := F), k0_pay19 (F := F)) (Scf.trips k0_t1_loop.lb k0_t1_loop.ub k0_t1_loop.st)).2.2 = harg8.unread (Aq x0) := by
  refine harg8.eq_unread ?_
  funext y
  rw [trips28, st_deq _ _ _ _ _ _ _ _ _ _ _ _ _ _ _ _ _ _ _ _ _ _ _ _ _ _ (by omega)]
  have hy : (y 1).val < 7168 := (y 1).isLt
  rw [if_pos (by omega)]

/-- After the quantising loop the codes' buffer holds the packed codes. -/
theorem arg5_after (𝒱 : Variants) (c : Dev nD) (bd : Option 𝒱.V) (i : grid0.Coords) (arg1 : Memref sig .tc .vmem S256x7168 .bf16) (harg1 : arg1.IsWhole) (arg2 : Memref sig .tc .vmem S3584x512 .i8) (harg2 : arg2.IsWhole) (arg3 : Memref sig .tc .vmem S56x512 .f32) (harg3 : arg3.IsWhole) (arg4 : Memref sig .tc .vmem S256x512 .bf16) (harg4 : arg4.IsWhole) (arg5 : Memref sig .tc .vmem S256x3584 .i8) (harg5 : arg5.IsWhole) (arg6 : Memref sig .tc .vmem S256x56 .f32) (harg6 : arg6.IsWhole) (arg7 : Memref sig .tc .vmem S256x56 .i8) (harg7 : arg7.IsWhole) (arg8 : Memref sig .tc .vmem S256x7168 .bf16) (harg8 : arg8.IsWhole) (h1 : k0_cond1 i = 1#1) (x0 : Vec F S256x7168 .bf16) (G : BufTy.Contents (Elt F) arg5.view.ty) :
    arg5.view.writes (Elt F) G (st_k0_t1 (F := F) 𝒱 c bd i arg1 harg1 arg2 harg2 arg3 harg3 arg4 harg4 arg5 harg5 arg6 harg6 arg7 harg7 arg8 harg8 h1 (iota .tc S256x128 32 [1] iota_S256x128_d1_w32) (harg1.unread x0) (k0_pay19 (F := F), k0_pay19 (F := F)) (Scf.trips k0_t1_loop.lb k0_t1_loop.ub k0_t1_loop.st)).2.1 = harg5.unread (Cq x0) := by
  refine harg5.eq_unread ?_
  funext y
  rw [trips28, st_codes _ _ _ _ _ _ _ _ _ _ _ _ _ _ _ _ _ _ _ _ _ _ _ _ _ _ (by omega)]
  have hy : (y 1).val < 3584 := (y 1).isLt
  rw [if_pos (by omega)]

/-- After the quantising loop the carried vectors hold every group's scale and zero point. -/
theorem carried_after (𝒱 : Variants) (c : Dev nD) (bd : Option 𝒱.V) (i : grid0.Coords) (arg1 : Memref sig .tc .vmem S256x7168 .bf16) (harg1 : arg1.IsWhole) (arg2 : Memref sig .tc .vmem S3584x512 .i8) (harg2 : arg2.IsWhole) (arg3 : Memref sig .tc .vmem S56x512 .f32) (harg3 : arg3.IsWhole) (arg4 : Memref sig .tc .vmem S256x512 .bf16) (harg4 : arg4.IsWhole) (arg5 : Memref sig .tc .vmem S256x3584 .i8) (harg5 : arg5.IsWhole) (arg6 : Memref sig .tc .vmem S256x56 .f32) (harg6 : arg6.IsWhole) (arg7 : Memref sig .tc .vmem S256x56 .i8) (harg7 : arg7.IsWhole) (arg8 : Memref sig .tc .vmem S256x7168 .bf16) (harg8 : arg8.IsWhole) (h1 : k0_cond1 i = 1#1) (x0 : Vec F S256x7168 .bf16) :
    (st_k0_t1 (F := F) 𝒱 c bd i arg1 harg1 arg2 harg2 arg3 harg3 arg4 harg4 arg5 harg5 arg6 harg6 arg7 harg7 arg8 harg8 h1 (iota .tc S256x128 32 [1] iota_S256x128_d1_w32) (harg1.unread x0) (k0_pay19 (F := F), k0_pay19 (F := F)) (Scf.trips k0_t1_loop.lb k0_t1_loop.ub k0_t1_loop.st)).1 = (lanes k0_pay4 x0 56, lanes k0_pay5 x0 56) := by
  rw [trips28, st_carried _ _ _ _ _ _ _ _ _ _ _ _ _ _ _ _ _ _ _ _ _ _ _ (by omega)]

set_option maxHeartbeats 1000000 in
/-- At the first point the body also quantises the activation: it leaves the codes, scales, zero points and the
    dequantised activation, and computes its output block from them. -/
theorem runA (c : Dev nD) (i : grid0.Coords) (arg1 : Memref sig .tc .vmem S256x7168 .bf16) (harg1 : arg1.IsWhole) (arg2 : Memref sig .tc .vmem S3584x512 .i8) (harg2 : arg2.IsWhole) (arg3 : Memref sig .tc .vmem S56x512 .f32) (harg3 : arg3.IsWhole) (arg4 : Memref sig .tc .vmem S256x512 .bf16) (harg4 : arg4.IsWhole) (arg5 : Memref sig .tc .vmem S256x3584 .i8) (harg5 : arg5.IsWhole) (arg6 : Memref sig .tc .vmem S256x56 .f32) (harg6 : arg6.IsWhole) (arg7 : Memref sig .tc .vmem S256x56 .i8) (harg7 : arg7.IsWhole) (arg8 : Memref sig .tc .vmem S256x7168 .bf16) (harg8 : arg8.IsWhole) (hc0 : k0_cond1 i = 1#1)
    (x0 : Vec F S256x7168 .bf16) (x1 : Vec F S3584x512 .i8) (x2 : Vec F S56x512 .f32) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare (Yb x1 x2 (Aq x0)) ∗ owns (c : Thread nD τ) arg5 fullShare (Cq x0) ∗ owns (c : Thread nD τ) arg6 fullShare (Sq x0) ∗ owns (c : Thread nD τ) arg7 fullShare (Zq x0) ∗ owns (c : Thread nD τ) arg8 fullShare (Aq x0)) -∗ K ⟨⟩))
      ⊢ wp frame (wpE (defs₀ (F := F)) Variants.none c none) E (cc0__body i arg1 harg1 arg2 harg2 arg3 harg3 arg4 harg4 arg5 harg5 arg6 harg6 arg7 harg7 arg8 harg8) K := by
  simp only [cc0__body_eq_skeleton]; unfold cc0__body_skel
  simp only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%ds0, %fs0, -, HS0⟩, Hk⟩
  obtain rfl := harg1.eq_unread hf0; obtain rfl := harg2.eq_unread hf1; obtain rfl := harg3.eq_unread hf2
  have e8 := arg8_after (F := F) Variants.none c none i arg1 harg1 arg2 harg2 arg3 harg3 arg4 harg4 arg5 harg5 arg6 harg6 arg7 harg7 arg8 harg8 hc0 x0 fs0
  have e5 := arg5_after (F := F) Variants.none c none i arg1 harg1 arg2 harg2 arg3 harg3 arg4 harg4 arg5 harg5 arg6 harg6 arg7 harg7 arg8 harg8 hc0 x0 f4
  have ec := carried_after (F := F) Variants.none c none i arg1 harg1 arg2 harg2 arg3 harg3 arg4 harg4 arg5 harg5 arg6 harg6 arg7 harg7 arg8 harg8 hc0 x0
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; swap; · iexact H3
    ipureintro
    refine (store_whole _ _ _ _).trans ?_
    sl_unfold_words
    rw [e8]
    simp only [ld_prows, ld_wrows, ld_acols]
    rfl
  isplitl [H4]
  · iexists _; isplitr; swap; · iexact H4
    ipureintro
    sl_unfold_words
    rw [e5]
    exact harg5.read_unread _
  isplitl [H5]
  · iexists _; isplitr; swap; · iexact H5
    ipureintro
    refine (store_whole _ _ _ _).trans ?_
    sl_unfold_words
    exact congrArg (fun p => k0_pay25 p.1) ec
  isplitl [H6]
  · iexists _; isplitr; swap; · iexact H6
    ipureintro
    refine (store_whole _ _ _ _).trans ?_
    sl_unfold_words
    exact congrArg (fun p => k0_pay26 p.2) ec
  iexists _; isplitr; swap; · iexact HS0
  ipureintro
  sl_unfold_words
  rw [e8]
  exact harg8.read_unread _

end Cert.Kernel.Hand

end
-- ==== Proof.KbFrame.lean ====
/- The whole kernel run: the body at every grid point, the pipeline around it, and the frame claim. (The kernel as printed; the Ki module of the same name is its twin for the idealized kernel.) -/
module

public import proofs.«01_k».proof.Proof.Gen.Kernel.Frame
public import proofs.«01_k».proof.Proof.Gen.Kernel.Loops
public import Idealize.ShloMosaic.Lib.WritesUnit
public import Idealize.ShloMosaic.Lib.VecWindow
public import Idealize.ShloMosaic.Lib.Pointwise
public import Idealize.ShloMosaic.Lib.WholeRead
public import proofs.«01_k».proof.Proof.KbBody
public import Idealize.ShloMosaic.Lib.Pipeline.TableIdle
public import Idealize.ShloMosaic.Lib.Claim

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 36 = 0 :=
  (fun t => by
    have ht : t.val < 36 := Nat.lt_of_lt_of_eq t.isLt N_0
    have e0 : (grid0.coords t 0).val = t.val / 1 % 36 := Pipeline.Grid.coords_val t 0 (by decide) rfl
    simp only [cond0_0, k0_cond1, e0]
    word_cmp
   : ∀ t : Fin grid0.N, cond0_0 (grid0.coords t) ↔ t.val % 36 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S256x7168 .bf16 := win0_0.stage (cfg0.slots t 0)
/-- The staging buffer of window 0 is a whole buffer. -/
abbrev hs0_0 (t : Fin cfg0.N) : (ms0_0 t).IsWhole := hstage0_0 ((cfg0.slots t 0).cast nbuf0_0)
/-- The staging buffer of window 1 at a grid point. -/
abbrev ms0_1 (t : Fin cfg0.N) : Memref sig .tc .vmem S3584x512 .i8 := win0_1.stage (cfg0.slots t 1)
/-- The staging buffer of window 1 is a whole buffer. -/
abbrev hs0_1 (t : Fin cfg0.N) : (ms0_1 t).IsWhole := hstage0_1 ((cfg0.slots t 1).cast nbuf0_1)
/-- The staging buffer of window 2 at a grid point. -/
abbrev ms0_2 (t : Fin cfg0.N) : Memref sig .tc .vmem S56x512 .f32 := win0_2.stage (cfg0.slots t 2)
/-- The staging buffer of window 2 is a whole buffer. -/
abbrev hs0_2 (t : Fin cfg0.N) : (ms0_2 t).IsWhole := hstage0_2 ((cfg0.slots t 2).cast nbuf0_2)
/-- The staging buffer of window 3 at a grid point. -/
abbrev ms0_3 (t : Fin cfg0.N) : Memref sig .tc .vmem S256x512 .bf16 := win0_3.stage (cfg0.slots t 3)
/-- The staging buffer of window 3 is a whole buffer. -/
abbrev hs0_3 (t : Fin cfg0.N) : (ms0_3 t).IsWhole := hstage0_3 ((cfg0.slots t 3).cast nbuf0_3)
/-- The staging buffer of window 4 at a grid point. -/
abbrev ms0_4 (t : Fin cfg0.N) : Memref sig .tc .vmem S256x3584 .i8 := win0_4.stage (cfg0.slots t 4)
/-- The staging buffer of window 4 is a whole buffer. -/
abbrev hs0_4 (t : Fin cfg0.N) : (ms0_4 t).IsWhole := hstage0_4 ((cfg0.slots t 4).cast nbuf0_4)
/-- The staging buffer of window 5 at a grid point. -/
abbrev ms0_5 (t : Fin cfg0.N) : Memref sig .tc .vmem S256x56 .f32 := win0_5.stage (cfg0.slots t 5)
/-- The staging buffer of window 5 is a whole buffer. -/
abbrev hs0_5 (t : Fin cfg0.N) : (ms0_5 t).IsWhole := hstage0_5 ((cfg0.slots t 5).cast nbuf0_5)
/-- The staging buffer of window 6 at a grid point. -/
abbrev ms0_6 (t : Fin cfg0.N) : Memref sig .tc .vmem S256x56 .i8 := win0_6.stage (cfg0.slots t 6)
/-- The staging buffer of window 6 is a whole buffer. -/
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S256x7168 .bf16 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## The pipeline's proof data -/

/-- The grid has at least one point. -/
theorem pos36 : 0 < cfg0.N := by rw [show cfg0.N = 36 from N_0]; decide

/-- The whole activation as the kernel reads it. -/
def X0 (c : Dev nD) : Vec F S256x7168 .bf16 := iblk m c 0 ⟨0, pos36⟩

/-- The proof data: each input's buffer holds its block; the output window holds the point's product block; the codes',
    scales' and zero points' windows hold them from the first point on; between points the scratch holds the
    dequantised activation. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => Yb (F := F) (iblk m c 1 t) (iblk m c 2 t) (Aq (X0 m c))
    | ⟨4, _⟩ => Cq (X0 m c)
    | ⟨5, _⟩ => Sq (X0 m c)
    | ⟨6, _⟩ => Zq (X0 m c)
  Φ t := if t.val = 0 then Pipeline.ΦA spec0 c else iprop(owns (c : Thread nD τ) scM0_0 fullShare (Aq (X0 m c)) ∗ (∃ r, prngReg c r))
  q _ := fullShare
  owed _ := 0

/-- The array behind each window is the one the region enters with. -/
theorem A_eq (c : Dev nD) (w : Fin cfg0.W) : (dats m 0 c).A w = V m c (Pipeline.arrRef spec0 w) := by
  dsimp only [dats]

/-- After the body the activations block is unchanged. -/
theorem after0_0 (c : Dev nD) (t : Fin cfg0.N) : (dats m 0 c).after 0 t = iblk m c 0 t := by dsimp only [dats]
/-- After the body the packed-weights block is unchanged. -/
theorem after0_1 (c : Dev nD) (t : Fin cfg0.N) : (dats m 0 c).after 1 t = iblk m c 1 t := by dsimp only [dats]
/-- After the body the weight-scales block is unchanged. -/
theorem after0_2 (c : Dev nD) (t : Fin cfg0.N) : (dats m 0 c).after 2 t = iblk m c 2 t := by dsimp only [dats]
/-- After the body the output block holds the value `Yb` of the blocks read. -/
theorem after0_3 (c : Dev nD) (t : Fin cfg0.N) : (dats m 0 c).after 3 t = Yb (F := F) (iblk m c 1 t) (iblk m c 2 t) (Aq (X0 m c)) := by dsimp only [dats]
/-- After the body the packed-codes block holds the codes of the activations. -/
theorem after0_4 (c : Dev nD) (t : Fin cfg0.N) : (dats m 0 c).after 4 t = Cq (X0 m c) := by dsimp only [dats]
/-- After the body the scales block holds the scales of the activations. -/
theorem after0_5 (c : Dev nD) (t : Fin cfg0.N) : (dats m 0 c).after 5 t = Sq (X0 m c) := by dsimp only [dats]
/-- After the body the zero-points block holds the zero points of the activations. -/
theorem after0_6 (c : Dev nD) (t : Fin cfg0.N) : (dats m 0 c).after 6 t = Zq (X0 m c) := by dsimp only [dats]

/-- Before the body window 0 holds its block of the activations. -/
theorem before0_0 (c : Dev nD) (t : Fin cfg0.N) (d) : (dats m 0 c).before 0 t d = iblk m c 0 t :=
  before0_0_of m (dats m 0 c) (A_eq m c 0) (after0_0 m c) t d
/-- Before the body window 1 holds its block of the packed weights. -/
theorem before0_1 (c : Dev nD) (t : Fin cfg0.N) (d) : (dats m 0 c).before 1 t d = iblk m c 1 t :=
  before0_1_of m (dats m 0 c) (A_eq m c 1) (after0_1 m c) t d
/-- Before the body window 2 holds its block of the weight scales. -/
theorem before0_2 (c : Dev nD) (t : Fin cfg0.N) (d) : (dats m 0 c).before 2 t d = iblk m c 2 t :=
  before0_2_of m (dats m 0 c) (A_eq m c 2) (after0_2 m c) t d

/-- Window 4 is not renewed after the first grid point. -/
theorem fresh0_4 : ∀ t : Fin cfg0.N, t.val ≠ 0 → cfg0.fresh 4 t.val = false := by decide +kernel
/-- After the first point window 4 still holds what the first point left. -/
theorem before0_4 (c : Dev nD) (t : Fin cfg0.N) (ht : t.val ≠ 0) (d) : (dats m 0 c).before 4 t d = Cq (X0 m c) := by
  rw [(dats m 0 c).before_out_traj 4 rfl (fun _ _ => rfl) (fun t _ _ _ => by rw [after0_4, after0_4]) t.val t rfl d,
    fresh0_4 t ht]
  exact after0_4 m c _
/-- The body writes window 4 at the first grid point. -/
theorem live0_4 : ∀ t : Fin cfg0.N, t.val = 0 → cfg0.idle 4 (grid0.coords t) = false := by decide +kernel
/-- Handing the window back as it is meets what the pipeline asks of it. -/
theorem keep0_4 (c : Dev nD) (t : Fin cfg0.N) (ht : t.val ≠ 0) :
    owns (c : Thread nD τ) (ms0_4 t) fullShare (Cq (X0 m c)) ⊢ ((dats m 0 c).leavesExact 4 t : sProp 𝕄) := by
  unfold Dat.leavesExact
  cases cfg0.idle 4 (cfg0.grid.coords t)
  · rw [after0_4]
  · cases (cfg0.win 4).flush t
    · iintro H
      iexists fun _ => Inhabited.default
      rw [before0_4 m c t ht]
      iexact H
    · rw [after0_4]

/-- Window 5 is not renewed after the first grid point. -/
theorem fresh0_5 : ∀ t : Fin cfg0.N, t.val ≠ 0 → cfg0.fresh 5 t.val = false := by decide +kernel
/-- After the first point window 5 still holds what the first point left. -/
theorem before0_5 (c : Dev nD) (t : Fin cfg0.N) (ht : t.val ≠ 0) (d) : (dats m 0 c).before 5 t d = Sq (X0 m c) := by
  rw [(dats m 0 c).before_out_traj 5 rfl (fun _ _ => rfl) (fun t _ _ _ => by rw [after0_5, after0_5]) t.val t rfl d,
    fresh0_5 t ht]
  exact after0_5 m c _
/-- The body writes window 5 at the first grid point. -/
theorem live0_5 : ∀ t : Fin cfg0.N, t.val = 0 → cfg0.idle 5 (grid0.coords t) = false := by decide +kernel
/-- Handing the window back as it is meets what the pipeline asks of it. -/
theorem keep0_5 (c : Dev nD) (t : Fin cfg0.N) (ht : t.val ≠ 0) :
    owns (c : Thread nD τ) (ms0_5 t) fullShare (Sq (X0 m c)) ⊢ ((dats m 0 c).leavesExact 5 t : sProp 𝕄) := by
  unfold Dat.leavesExact
  cases cfg0.idle 5 (cfg0.grid.coords t)
  · rw [after0_5]
  · cases (cfg0.win 5).flush t
    · iintro H
      iexists fun _ => Inhabited.default
      rw [before0_5 m c t ht]
      iexact H
    · rw [after0_5]

/-- Window 6 is not renewed after the first grid point. -/
theorem fresh0_6 : ∀ t : Fin cfg0.N, t.val ≠ 0 → cfg0.fresh 6 t.val = false := by decide +kernel
/-- After the first point window 6 still holds what the first point left. -/
theorem before0_6 (c : Dev nD) (t : Fin cfg0.N) (ht : t.val ≠ 0) (d) : (dats m 0 c).before 6 t d = Zq (X0 m c) := by
  rw [(dats m 0 c).before_out_traj 6 rfl (fun _ _ => rfl) (fun t _ _ _ => by rw [after0_6, after0_6]) t.val t rfl d,
    fresh0_6 t ht]
  exact after0_6 m c _
/-- The body writes window 6 at the first grid point. -/
theorem live0_6 : ∀ t : Fin cfg0.N, t.val = 0 → cfg0.idle 6 (grid0.coords t) = false := by decide +kernel
/-- Handing the window back as it is meets what the pipeline asks of it. -/
theorem keep0_6 (c : Dev nD) (t : Fin cfg0.N) (ht : t.val ≠ 0) :
    owns (c : Thread nD τ) (ms0_6 t) fullShare (Zq (X0 m c)) ⊢ ((dats m 0 c).leavesExact 6 t : sProp 𝕄) := by
  unfold Dat.leavesExact
  cases cfg0.idle 6 (cfg0.grid.coords t)
  · rw [after0_6]
  · cases (cfg0.win 6).flush t
    · iintro H
      iexists fun _ => Inhabited.default
      rw [before0_6 m c t ht]
      iexact H
    · rw [after0_6]

/-! ## The body obligation -/

/-- What the body owns when it starts at a grid point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- What the body owns when it ends at a grid point. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

/-- The body writes the output window at every grid point. -/
theorem live0_3 : ∀ t : Fin cfg0.N, cfg0.idle 3 (grid0.coords t) = false := fun _ => rfl

/-- After any grid point the scratch holds the dequantised activations. -/
theorem phi_succ (c : Dev nD) (t : Fin cfg0.N) : (dats m 0 c).Φ t.succ = iprop(owns (c : Thread nD τ) scM0_0 fullShare (Aq (X0 m c)) ∗ (∃ r, prngReg c r)) := by
  dsimp only [dats]
  exact if_neg (by rw [Fin.val_succ]; omega)

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl, phi_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [live0_3 t], after0_3]
  have hN : t.val < 36 := lt_of_lt_of_eq t.isLt (show cfg0.N = 36 from N_0)
  by_cases h0 : t.val = 0
  · rw [show (dats m 0 c).Φ t.castSucc = Pipeline.ΦA spec0 c from by dsimp only [dats]; exact if_pos h0, PhiA0_eq]
    have ex : iblk m c 0 t = X0 m c := by unfold X0; rw [show t = ⟨0, pos36⟩ from Fin.ext h0]
    rw [show (dats m 0 c).leavesExact 4 t = owns (c : Thread nD τ) (ms0_4 t) fullShare ((dats m 0 c).after 4 t) from by
      unfold Dat.leavesExact; rw [live0_4 t h0], after0_4]
    rw [show (dats m 0 c).leavesExact 5 t = owns (c : Thread nD τ) (ms0_5 t) fullShare ((dats m 0 c).after 5 t) from by
      unfold Dat.leavesExact; rw [live0_5 t h0], after0_5]
    rw [show (dats m 0 c).leavesExact 6 t = owns (c : Thread nD τ) (ms0_6 t) fullShare ((dats m 0 c).after 6 t) from by
      unfold Dat.leavesExact; rw [live0_6 t h0], after0_6]
    rw [ex]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
    iapply ((runA c (grid0.coords t) _ _ _ _ _ _ _ _ _ _ _ _ _ _ _ _ ((hcond0_0 t).mpr (by omega)) (X0 m c) (iblk m c 1 t) (iblk m c 2 t)) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexists _; iexact H6
    isplitl [HS0]; · iexact HS0
    iintro ⟨H0, H1, H2, H3, H4, H5, H6, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [show (dats m 0 c).Φ t.castSucc = iprop(owns (c : Thread nD τ) scM0_0 fullShare (Aq (X0 m c)) ∗ (∃ r, prngReg c r)) from by dsimp only [dats]; exact if_neg h0]
    simp only [before0_4 m c t h0, before0_5 m c t h0, before0_6 m c t h0]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
    iapply ((runB c (grid0.coords t) _ _ _ _ _ _ _ _ _ _ _ _ _ _ _ _ (fun h => h0 (by have := (hcond0_0 t).mp h; omega)) (iblk m c 1 t) (iblk m c 2 t) (Aq (X0 m c))) Set.univ _)
    isplitl [H1]; · iexact H1
    isplitl [H2]; · iexact H2
    isplitl [H3]; · iexists _; iexact H3
    isplitl [HS0]; · iexact HS0
    iintro ⟨H1, H2, H3, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iapply (keep0_4 m c t h0); iexact H4
    isplitl [H5]; · iapply (keep0_5 m c t h0); iexact H5
    iapply (keep0_6 m c t h0); iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body meets its specification at every grid point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

/-- The scratch owned on entry gives the state before the first grid point. -/
theorem phi_in (c : Dev nD) : Pipeline.ΦA spec0 c ⊢ ((dats m 0 c).Φ 0 : sProp 𝕄) := by
  dsimp only [dats]
  rw [if_pos (show ((0 : Fin (cfg0.N + 1)).val = 0) from rfl)]

/-- The state after the last grid point gives back the scratch. -/
theorem phi_out (c : Dev nD) : (dats m 0 c).Φ (Fin.last cfg0.N) ⊢ (Pipeline.ΦA spec0 c : sProp 𝕄) := by
  dsimp only [dats]
  rw [if_neg (by have := pos36; rw [Fin.val_last]; omega), PhiA0_eq]
  iintro ⟨H, Hg⟩
  isplitl [H]
  · iexists _; iexact H
  iexact Hg

/-- What every final state satisfies: the pipeline's arrays hold what the proof data says, the other buffers what the
    later host lines make of that, and every semaphore is at zero. -/
def Final (r : PUnit × MemSt nD τ sig (Elt F)) : Prop :=
  Pipeline.FramePost cfgs (dats m) 0 (Pipeline.afterTail₀ cfgs (dats m) 0 (V0 m) [hostOps1]) r ∧ r.2.sem = fun _ => 0

set_option backward.isDefEq.respectTransparency.types false in
set_option maxHeartbeats 800000 in
/-- The run: every weakly fair execution terminates in such a state. -/
theorem run_final : θ_run defs (onTc (τ := τ) (main (F := F))) (s₀ m ρ) (Final m) :=
  Pipeline.θ_run_frame_around_track (Q' := Final m) cfgs (dats m) (0 : Fin 1) launch0 defs₀ Variants.none m ρ main
    (fun c => (body_obligation m c).loose) (fun c => (dats m 0 c).share_full fun _ => rfl) (fun _ _ => rfl) (V0 m) [hostOps1] sfx_sub sfx_fresh sfx_keeps (hmain m Variants.none) (A_eq m)
    (phi_in m) (phi_out m) (hQ' := fun _ h => h)

/-- The kernel leaves its arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_final m ρ)))
    ((θ_run defs _ _).mono (fun _ h => h.2) (run_final m ρ))

end Cert.Kernel.Hand

end
-- ==== Proof.KiVal.lean ====
/- The values the kernel body computes, named as plain functions of the blocks it reads. (The idealized kernel.) -/
module

public import proofs.«01_k».proof.Proof.Gen.KernelIdeal.Frame
public import proofs.«01_k».proof.Proof.Gen.KernelIdeal.Loops
public import Idealize.ShloMosaic.Lib.WritesUnit
public import Idealize.ShloMosaic.Lib.VecWindow
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The values the kernel leaves, as plain functions of what it reads (any interpretation of the float formats). -/

/-- Channels `128 g … 128 g + 127` of every row of the activation: quantisation group `g`. -/
def grp (x : Vec F S256x7168 .bf16) (g : ℕ) : Vec F S256x128 .bf16 := fun y =>
  x (ix2 (y 0) ⟨(128 * g + (y 1).val) % 7168, Nat.mod_lt _ (by decide)⟩)

/-- The dequantised group: (code - zero point) * scale, in bf16. -/
def deq (v : Vec F S256x128 .bf16) : FVec F S256x128 .bf16 := k0_pay9 (k0_pay7 v)

/-- The 64 packed code bytes of a group as 32-bit words: each one code pair. -/
def pk (v : Vec F S256x128 .bf16) : IVec S256x64 32 := k0_pay8 (k0_pay18 (F := F)) v

/-- The dequantised activation, all 56 groups side by side. -/
def Aq (x : Vec F S256x7168 .bf16) : Vec F S256x7168 .bf16 := fun y =>
  deq (grp x ((y 1).val / 128)) (ix2 (y 0) ⟨(y 1).val % 128, Nat.mod_lt _ (by decide)⟩)

/-- The packed codes, all 56 groups side by side. -/
def Cq (x : Vec F S256x7168 .bf16) : Vec F S256x3584 .i8 := fun y =>
  (pk (grp x ((y 1).val / 64)) (ix2 (y 0) ⟨(y 1).val % 64, Nat.mod_lt _ (by decide)⟩)).setWidth 8

/-- The per-group value `f` of lane `g`'s group for the lanes below `n`, the initial constant on the others: what the
    quantising loop carries after `n` groups. -/
def lanes (f : Vec F S256x128 .bf16 → FVec F S256x1 .f32) (x : Vec F S256x7168 .bf16) (n : ℕ) : FVec F S256x128 .f32 := fun y =>
  if (y 1).val < n then f (grp x (y 1).val) (ix2 (y 0) 0) else k0_pay19 (F := F) y

/-- The scales: lane `g < 56` holds group `g`'s. -/
def Sq (x : Vec F S256x7168 .bf16) : Vec F S256x56 .f32 := k0_pay25 (lanes k0_pay4 x 56)

/-- The zero points, as bytes. -/
def Zq (x : Vec F S256x7168 .bf16) : Vec F S256x56 .i8 := k0_pay26 (lanes k0_pay5 x 56)

end Cert.KernelIdeal.Hand

end
-- ==== Proof.KiLoop.lean ====
/- The quantising loop of the kernel body: what each of its trips loads, stores and carries. (The idealized kernel.) -/
module

public import proofs.«01_k».proof.Proof.Gen.KernelIdeal.Frame
public import proofs.«01_k».proof.Proof.Gen.KernelIdeal.Loops
public import Idealize.ShloMosaic.Lib.WritesUnit
public import Idealize.ShloMosaic.Lib.VecWindow
public import Idealize.ShloMosaic.Lib.Pointwise
public import Idealize.ShloMosaic.Lib.WholeRead
public import proofs.«01_k».proof.Proof.KiVal

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The quantising loop: what one trip yields and stores, and what all trips before `n` have left. -/

/-- A load of group `2 k + r` of the activation, as the loop's trip spells its offsets. -/
theorem load_grp {arg1 : Memref sig .tc .vmem S256x7168 .bf16} (harg1 : arg1.IsWhole) (x : Vec F S256x7168 .bf16)
    (k : Fin k0_t1_loop.trips) (r : Fin 2) (inb) :
    View.readAt (Elt F) arg1.view (Rect.unit (s := S256x7168) (k0_off1 k (BitVec.ofNat 32 r.val)) S256x128.size inb).toLoadRect (harg1.unread x)
      = grp x (2 * k.val + r.val) := by
  have hk : k.val < 28 := Nat.lt_of_lt_of_le k.isLt k0_t1_abs.2.1
  have hr := r.isLt
  funext y
  rw [harg1.readAt_unread]
  unfold grp
  refine congrArg x ?_
  have hoff := k0_off1_eq k r
  have hy : (y 1).val < 128 := (y 1).isLt
  funext a
  apply Fin.ext
  match a with
  | ⟨0, _⟩ =>
    have e : k0_off1 k (BitVec.ofNat 32 r.val) 0 = 0 := by rw [hoff]; rfl
    show k0_off1 k (BitVec.ofNat 32 r.val) 0 + 1 * (y 0).val = (y 0).val
    omega
  | ⟨1, _⟩ =>
    have e : k0_off1 k (BitVec.ofNat 32 r.val) 1 = 256 * k.val + 128 * r.val := by rw [hoff]; rfl
    show k0_off1 k (BitVec.ofNat 32 r.val) 1 + 1 * (y 1).val = (128 * (2 * k.val + r.val) + (y 1).val) % 7168
    omega

/-- What one trip yields: the carried scales and zero points with the two lanes of its groups replaced. -/
theorem trip_R (𝒱 : Variants) (c : Dev nD) (bd : Option 𝒱.V) (i : grid0.Coords) (arg1 : Memref sig .tc .vmem S256x7168 .bf16) (harg1 : arg1.IsWhole) (arg2 : Memref sig .tc .vmem S3584x512 .i8) (harg2 : arg2.IsWhole) (arg3 : Memref sig .tc .vmem S56x512 .f32) (harg3 : arg3.IsWhole) (arg4 : Memref sig .tc .vmem S256x512 .bf16) (harg4 : arg4.IsWhole) (arg5 : Memref sig .tc .vmem S256x3584 .i8) (harg5 : arg5.IsWhole) (arg6 : Memref sig .tc .vmem S256x56 .f32) (harg6 : arg6.IsWhole) (arg7 : Memref sig .tc .vmem S256x56 .i8) (harg7 : arg7.IsWhole) (arg8 : Memref sig .tc .vmem S256x7168 .bf16) (harg8 : arg8.IsWhole) (h1 : k0_cond1 i = 1#1) (v862 : IVec S256x128 32) (x0 : Vec F S256x7168 .bf16) (k : Fin k0_t1_loop.trips) (acc : FVec F S256x128 .f32 × FVec F S256x128 .f32) :
    tripR_k0_t1 (F := F) 𝒱 c bd i arg1 harg1 arg2 harg2 arg3 harg3 arg4 harg4 arg5 harg5 arg6 harg6 arg7 harg7 arg8 harg8 h1 v862 (harg1.unread x0) k acc
      = (k0_pay22 (k0_pay10 v862 acc.1 (Scalar.addi (Scalar.muli 2#32 (Scf.iv 0#32 1#32 k)) 0#32) (k0_pay4 (grp x0 (2 * k.val))))
            (Scalar.addi (Scalar.muli 2#32 (Scf.iv 0#32 1#32 k)) 1#32) (k0_pay4 (grp x0 (2 * k.val + 1))),
         k0_pay23 (k0_pay11 v862 acc.2 (Scalar.addi (Scalar.muli 2#32 (Scf.iv 0#32 1#32 k)) 0#32) (k0_pay5 (grp x0 (2 * k.val))))
            (Scalar.addi (Scalar.muli 2#32 (Scf.iv 0#32 1#32 k)) 1#32) (k0_pay5 (grp x0 (2 * k.val + 1)))) := by
  have h0 := load_grp harg1 x0 k 0 (k0_off1_inb i k h1 0)
  have h1' := load_grp harg1 x0 k 1 (k0_off1_inb i k h1 1)
  rw [show 2 * k.val = 2 * k.val + (0 : Fin 2).val from rfl, ← h0, show 2 * k.val + (0 : Fin 2).val + 1 = 2 * k.val + (1 : Fin 2).val from rfl, ← h1']
  unfold tripR_k0_t1
  unfold trip_k0_t1
  dsimp only
  sl_unfold_words
  rfl

/-- The pieces one trip stores: the packed codes of its two groups, and their two dequantised groups. -/
theorem trip_L (𝒱 : Variants) (c : Dev nD) (bd : Option 𝒱.V) (i : grid0.Coords) (arg1 : Memref sig .tc .vmem S256x7168 .bf16) (harg1 : arg1.IsWhole) (arg2 : Memref sig .tc .vmem S3584x512 .i8) (harg2 : arg2.IsWhole) (arg3 : Memref sig .tc .vmem S56x512 .f32) (harg3 : arg3.IsWhole) (arg4 : Memref sig .tc .vmem S256x512 .bf16) (harg4 : arg4.IsWhole) (arg5 : Memref sig .tc .vmem S256x3584 .i8) (harg5 : arg5.IsWhole) (arg6 : Memref sig .tc .vmem S256x56 .f32) (harg6 : arg6.IsWhole) (arg7 : Memref sig .tc .vmem S256x56 .i8) (harg7 : arg7.IsWhole) (arg8 : Memref sig .tc .vmem S256x7168 .bf16) (harg8 : arg8.IsWhole) (h1 : k0_cond1 i = 1#1) (v862 : IVec S256x128 32) (x0 : Vec F S256x7168 .bf16) (k : Fin k0_t1_loop.trips) (acc : FVec F S256x128 .f32 × FVec F S256x128 .f32) :
    tripL_k0_t1 (F := F) 𝒱 c bd i arg1 harg1 arg2 harg2 arg3 harg3 arg4 harg4 arg5 harg5 arg6 harg6 arg7 harg7 arg8 harg8 h1 v862 (harg1.unread x0) k acc
      = ([⟨Rect.unit (s := S256x3584) (k0_off2 k) S256x128.size (k0_off2_inb i k h1),
            trunci 8 (concatenate S256x128 1 [⟨S256x64, pk (grp x0 (2 * k.val))⟩, ⟨S256x64, pk (grp x0 (2 * k.val + 1))⟩] concatenates_S256x64_S256x64_S256x128_d1) natLt_8_32⟩],
         [⟨Rect.unit (s := S256x7168) (k0_off1 k 1#32) S256x128.size (k0_off1_inb i k h1 1), deq (grp x0 (2 * k.val + 1))⟩,
          ⟨Rect.unit (s := S256x7168) (k0_off1 k 0#32) S256x128.size (k0_off1_inb i k h1 0), deq (grp x0 (2 * k.val))⟩]) := by
  have h0 := load_grp harg1 x0 k 0 (k0_off1_inb i k h1 0)
  have h1' := load_grp harg1 x0 k 1 (k0_off1_inb i k h1 1)
  rw [show 2 * k.val = 2 * k.val + (0 : Fin 2).val from rfl, ← h0, show 2 * k.val + (0 : Fin 2).val + 1 = 2 * k.val + (1 : Fin 2).val from rfl, ← h1']
  unfold tripL_k0_t1
  unfold trip_k0_t1
  dsimp only
  sl_unfold_words
  rfl

/-- Selecting a column into lane `n`. -/
theorem sel_lane (acc : FVec F S256x128 .f32) (n : ℕ) (hn : n < 128) (v : FVec F S256x1 .f32) (y : S256x128.Idx) :
    k0_pay22 acc (BitVec.ofNat 32 n) v y = if (y 1).val = n then v (ix2 (y 0) 0) else acc y := by
  idx_vars y
  have hb := y1.isLt
  pointwise [k0_pay22]
  rw [Idealize.ShloMosaic.WordCmp.cmpi_eq_ofNat (by omega) (by omega)]
  by_cases h : y1.val = n <;> simp [h, Scalar.select]

/-- The first group of trip `k` is group `2k`, as a word. -/
theorem word0 (k : Fin k0_t1_loop.trips) : Scalar.addi (Scalar.muli 2#32 (Scf.iv 0#32 1#32 k)) 0#32 = BitVec.ofNat 32 (2 * k.val) := by
  revert k; decide +kernel

/-- The second group of trip `k` is group `2k + 1`, as a word. -/
theorem word1 (k : Fin k0_t1_loop.trips) : Scalar.addi (Scalar.muli 2#32 (Scf.iv 0#32 1#32 k)) 1#32 = BitVec.ofNat 32 (2 * k.val + 1) := by
  revert k; decide +kernel

/-- One trip adds its two groups' lanes. -/
theorem lanes_step (f : Vec F S256x128 .bf16 → FVec F S256x1 .f32) (x : Vec F S256x7168 .bf16) (k : Fin k0_t1_loop.trips) :
    k0_pay22 (k0_pay22 (lanes f x (2 * k.val)) (BitVec.ofNat 32 (2 * k.val)) (f (grp x (2 * k.val))))
      (BitVec.ofNat 32 (2 * k.val + 1)) (f (grp x (2 * k.val + 1))) = lanes f x (2 * (k.val + 1)) := by
  have hk : k.val < 28 := Nat.lt_of_lt_of_le k.isLt k0_t1_abs.2.1
  funext y
  rw [sel_lane _ _ (by omega), sel_lane _ _ (by omega)]
  unfold lanes
  by_cases h1 : (y 1).val = 2 * k.val + 1
  · rw [if_pos h1, if_pos (by omega), h1]
  by_cases h0 : (y 1).val = 2 * k.val
  · rw [if_neg h1, if_pos h0, if_pos (by omega), h0]
  rw [if_neg h1, if_neg h0]
  by_cases h : (y 1).val < 2 * k.val
  · rw [if_pos h, if_pos (by omega)]
  · rw [if_neg h, if_neg (by omega)]

/-- The carried scales and zero points before trip `n`. -/
theorem st_carried (𝒱 : Variants) (c : Dev nD) (bd : Option 𝒱.V) (i : grid0.Coords) (arg1 : Memref sig .tc .vmem S256x7168 .bf16) (harg1 : arg1.IsWhole) (arg2 : Memref sig .tc .vmem S3584x512 .i8) (harg2 : arg2.IsWhole) (arg3 : Memref sig .tc .vmem S56x512 .f32) (harg3 : arg3.IsWhole) (arg4 : Memref sig .tc .vmem S256x512 .bf16) (harg4 : arg4.IsWhole) (arg5 : Memref sig .tc .vmem S256x3584 .i8) (harg5 : arg5.IsWhole) (arg6 : Memref sig .tc .vmem S256x56 .f32) (harg6 : arg6.IsWhole) (arg7 : Memref sig .tc .vmem S256x56 .i8) (harg7 : arg7.IsWhole) (arg8 : Memref sig .tc .vmem S256x7168 .bf16) (harg8 : arg8.IsWhole) (h1 : k0_cond1 i = 1#1) (x0 : Vec F S256x7168 .bf16) (n : ℕ) (hn : n ≤ 28) :
    (st_k0_t1 (F := F) 𝒱 c bd i arg1 harg1 arg2 harg2 arg3 harg3 arg4 harg4 arg5 harg5 arg6 harg6 arg7 harg7 arg8 harg8 h1 (iota .tc S256x128 32 [1] iota_S256x128_d1_w32) (harg1.unread x0) (k0_pay19 (F := F), k0_pay19 (F := F)) n).1
      = (lanes k0_pay4 x0 (2 * n), lanes k0_pay5 x0 (2 * n)) := by
  induction n with
  | zero =>
    rw [st_k0_t1_zero]
    have h : ∀ f, lanes (F := F) f x0 (2 * 0) = k0_pay19 := fun f => funext fun y => if_neg (Nat.not_lt_zero _)
    rw [h, h]
  | succ n ih =>
    have hlt : n < k0_t1_loop.trips := by have : k0_t1_loop.trips = 28 := by decide +kernel
                                          omega
    have hs := st_k0_t1_succ (F := F) 𝒱 c bd i arg1 harg1 arg2 harg2 arg3 harg3 arg4 harg4 arg5 harg5 arg6 harg6 arg7 harg7 arg8 harg8 h1 (iota .tc S256x128 32 [1] iota_S256x128_d1_w32) (harg1.unread x0) (k0_pay19 (F := F), k0_pay19 (F := F)) ⟨n, hlt⟩
    rw [trip_R, word0, word1] at hs
    refine (congrArg Prod.fst hs).trans ?_
    dsimp only
    rw [ih (by omega)]
    exact congrArg₂ Prod.mk (lanes_step k0_pay4 x0 ⟨n, hlt⟩) (lanes_step k0_pay5 x0 ⟨n, hlt⟩)

/-- A column inside the newest piece, a block of 128 whole columns from column `o`, reads the piece. -/
theorem cols_hit {κ : Kind} {sp : Space} {N : ℕ} {e : EltTy} (v : View sig κ sp ⟨2, ![256, N]⟩ e) (f : v.ty.Contents (Elt F)) (o : ℕ)
    {off : Fin 2 → ℕ} (hoff : off = ![0, o]) (inb : ∀ a : Fin 2, off a + (![256, 128] : Fin 2 → ℕ) a ≤ (![256, N] : Fin 2 → ℕ) a)
    (w : (⟨2, ![256, 128]⟩ : Shape).Idx → Elt F e) (L : List (View.Piece (Elt F) ⟨2, ![256, N]⟩ e)) (y : (⟨2, ![256, N]⟩ : Shape).Idx)
    (j : Fin 128) (hj : (y 1).val = o + j.val) :
    v.read (Elt F) (v.writes (Elt F) f (⟨Rect.unit (s := ⟨2, ![256, N]⟩) off ![256, 128] inb, w⟩ :: L)) y = w (ix2 (y 0) j) :=
  View.read_writes_cons_unit_of_mem v f inb w L y (ix2 (y 0) j) hoff fun a => by
    match a with
    | ⟨0, _⟩ => show (y 0).val = 0 + (y 0).val; omega
    | ⟨1, _⟩ => exact hj

/-- A column outside it reads the rest. -/
theorem cols_miss {κ : Kind} {sp : Space} {N : ℕ} {e : EltTy} (v : View sig κ sp ⟨2, ![256, N]⟩ e) (f : v.ty.Contents (Elt F)) (o : ℕ)
    {off : Fin 2 → ℕ} (hoff : off = ![0, o]) (inb : ∀ a : Fin 2, off a + (![256, 128] : Fin 2 → ℕ) a ≤ (![256, N] : Fin 2 → ℕ) a)
    (w : (⟨2, ![256, 128]⟩ : Shape).Idx → Elt F e) (L : List (View.Piece (Elt F) ⟨2, ![256, N]⟩ e)) (y : (⟨2, ![256, N]⟩ : Shape).Idx)
    (hj : (y 1).val < o ∨ o + 128 ≤ (y 1).val) :
    v.read (Elt F) (v.writes (Elt F) f (⟨Rect.unit (s := ⟨2, ![256, N]⟩) off ![256, 128] inb, w⟩ :: L)) y = v.read (Elt F) (v.writes (Elt F) f L) y :=
  View.read_writes_cons_unit_of_not_mem v f inb w L y hoff (1 : Fin 2) hj

/-- The dequantised activation after the trips before `n`: columns below `256 n` hold it, the others what they held. -/
theorem st_deq (𝒱 : Variants) (c : Dev nD) (bd : Option 𝒱.V) (i : grid0.Coords) (arg1 : Memref sig .tc .vmem S256x7168 .bf16) (harg1 : arg1.IsWhole) (arg2 : Memref sig .tc .vmem S3584x512 .i8) (harg2 : arg2.IsWhole) (arg3 : Memref sig .tc .vmem S56x512 .f32) (harg3 : arg3.IsWhole) (arg4 : Memref sig .tc .vmem S256x512 .bf16) (harg4 : arg4.IsWhole) (arg5 : Memref sig .tc .vmem S256x3584 .i8) (harg5 : arg5.IsWhole) (arg6 : Memref sig .tc .vmem S256x56 .f32) (harg6 : arg6.IsWhole) (arg7 : Memref sig .tc .vmem S256x56 .i8) (harg7 : arg7.IsWhole) (arg8 : Memref sig .tc .vmem S256x7168 .bf16) (harg8 : arg8.IsWhole) (h1 : k0_cond1 i = 1#1) (v862 : IVec S256x128 32) (x0 : Vec F S256x7168 .bf16) (init) (G : BufTy.Contents (Elt F) arg8.view.ty) (n : ℕ) (hn : n ≤ 28) (y : S256x7168.Idx) :
    arg8.view.read (Elt F) (arg8.view.writes (Elt F) G (st_k0_t1 (F := F) 𝒱 c bd i arg1 harg1 arg2 harg2 arg3 harg3 arg4 harg4 arg5 harg5 arg6 harg6 arg7 harg7 arg8 harg8 h1 v862 (harg1.unread x0) init n).2.2) y
      = if (y 1).val < 256 * n then Aq x0 y else arg8.view.read (Elt F) G y := by
  induction n with
  | zero => rw [if_neg (by omega)]; rfl
  | succ n ih =>
    have hlt : n < k0_t1_loop.trips := by have : k0_t1_loop.trips = 28 := by decide +kernel
                                          omega
    have hs := st_k0_t1_succ (F := F) 𝒱 c bd i arg1 harg1 arg2 harg2 arg3 harg3 arg4 harg4 arg5 harg5 arg6 harg6 arg7 harg7 arg8 harg8 h1 v862 (harg1.unread x0) init ⟨n, hlt⟩
    rw [trip_L] at hs
    have hs2 := congrArg (fun p => p.2.2) hs
    dsimp only at hs2
    rw [hs2]
    have o0 := k0_off1_eq ⟨n, hlt⟩ 0
    have o1 := k0_off1_eq ⟨n, hlt⟩ 1
    have hy : (y 1).val < 7168 := (y 1).isLt
    dsimp only [List.cons_append, List.nil_append]
    by_cases hb1 : 256 * n + 128 ≤ (y 1).val ∧ (y 1).val < 256 * n + 256
    · refine (cols_hit _ _ _ o1 _ _ _ y ⟨(y 1).val - (256 * n + 128), by omega⟩ (by show (y 1).val = (256 * n + 128) + ((y 1).val - (256 * n + 128)); omega)).trans ?_
      rw [if_pos (by omega)]
      unfold Aq
      rw [show (y 1).val / 128 = 2 * n + 1 by omega]
      exact congrArg (deq (grp x0 (2 * n + 1))) (congrArg (ix2 (y 0)) (Fin.ext (by show (y 1).val - (256 * n + 128) = (y 1).val % 128; omega)))
    refine (cols_miss _ _ _ o1 _ _ _ y (by simp only [Fin.val_zero, Fin.val_one]; omega)).trans ?_
    by_cases hb0 : 256 * n ≤ (y 1).val ∧ (y 1).val < 256 * n + 128
    · refine (cols_hit _ _ _ o0 _ _ _ y ⟨(y 1).val - 256 * n, by omega⟩ (by show (y 1).val = 256 * n + ((y 1).val - 256 * n); omega)).trans ?_
      rw [if_pos (by omega)]
      unfold Aq
      rw [show (y 1).val / 128 = 2 * n by omega]
      exact congrArg (deq (grp x0 (2 * n))) (congrArg (ix2 (y 0)) (Fin.ext (by show (y 1).val - 256 * n = (y 1).val % 128; omega)))
    refine (cols_miss _ _ _ o0 _ _ _ y (by simp only [Fin.val_zero, Fin.val_one]; omega)).trans ?_
    rw [ih (by omega)]
    by_cases h : (y 1).val < 256 * n
    · rw [if_pos h, if_pos (by omega)]
    · rw [if_neg h, if_neg (by omega)]

/-- The packed codes of a trip's two groups side by side, read at a byte. -/
theorem pk_pair (v w : IVec S256x64 32) (y : S256x128.Idx) :
    trunci 8 (concatenate S256x128 1 [⟨S256x64, v⟩, ⟨S256x64, w⟩] concatenates_S256x64_S256x64_S256x128_d1) natLt_8_32 y
      = if (y 1).val < 64 then (v (ix2 (y 0) ⟨(y 1).val % 64, Nat.mod_lt _ (by decide)⟩)).setWidth 8
        else (w (ix2 (y 0) ⟨(y 1).val % 64, Nat.mod_lt _ (by decide)⟩)).setWidth 8 := by
  idx_vars y
  have hb := y1.isLt
  by_cases h : y1.val < 64
  · pointwise [h]
    exact congrArg (fun j => (v (ix2 y0 j)).setWidth 8) (Fin.ext (by show y1.val = y1.val % 64; omega))
  · pointwise [h]
    exact congrArg (fun j => (w (ix2 y0 j)).setWidth 8) (Fin.ext (by show y1.val - 64 = y1.val % 64; omega))

/-- The packed codes after the trips before `n`: columns below `128 n` hold them, the others what they held. -/
theorem st_codes (𝒱 : Variants) (c : Dev nD) (bd : Option 𝒱.V) (i : grid0.Coords) (arg1 : Memref sig .tc .vmem S256x7168 .bf16) (harg1 : arg1.IsWhole) (arg2 : Memref sig .tc .vmem S3584x512 .i8) (harg2 : arg2.IsWhole) (arg3 : Memref sig .tc .vmem S56x512 .f32) (harg3 : arg3.IsWhole) (arg4 : Memref sig .tc .vmem S256x512 .bf16) (harg4 : arg4.IsWhole) (arg5 : Memref sig .tc .vmem S256x3584 .i8) (harg5 : arg5.IsWhole) (arg6 : Memref sig .tc .vmem S256x56 .f32) (harg6 : arg6.IsWhole) (arg7 : Memref sig .tc .vmem S256x56 .i8) (harg7 : arg7.IsWhole) (arg8 : Memref sig .tc .vmem S256x7168 .bf16) (harg8 : arg8.IsWhole) (h1 : k0_cond1 i = 1#1) (v862 : IVec S256x128 32) (x0 : Vec F S256x7168 .bf16) (init) (G : BufTy.Contents (Elt F) arg5.view.ty) (n : ℕ) (hn : n ≤ 28) (y : S256x3584.Idx) :
    arg5.view.read (Elt F) (arg5.view.writes (Elt F) G (st_k0_t1 (F := F) 𝒱 c bd i arg1 harg1 arg2 harg2 arg3 harg3 arg4 harg4 arg5 harg5 arg6 harg6 arg7 harg7 arg8 harg8 h1 v862 (harg1.unread x0) init n).2.1) y
      = if (y 1).val < 128 * n then Cq x0 y else arg5.view.read (Elt F) G y := by
  induction n with
  | zero => rw [if_neg (by omega)]; rfl
  | succ n ih =>
    have hlt : n < k0_t1_loop.trips := by have : k0_t1_loop.trips = 28 := by decide +kernel
                                          omega
    have hs := st_k0_t1_succ (F := F) 𝒱 c bd i arg1 harg1 arg2 harg2 arg3 harg3 arg4 harg4 arg5 harg5 arg6 harg6 arg7 harg7 arg8 harg8 h1 v862 (harg1.unread x0) init ⟨n, hlt⟩
    rw [trip_L] at hs
    have hs2 := congrArg (fun p => p.2.1) hs
    dsimp only at hs2
    rw [hs2]
    have o0 := k0_off2_eq ⟨n, hlt⟩
    have hy : (y 1).val < 3584 := (y 1).isLt
    dsimp only [List.cons_append, List.nil_append]
    by_cases hb0 : 128 * n ≤ (y 1).val ∧ (y 1).val < 128 * n + 128
    · refine (cols_hit _ _ _ o0 _ _ _ y ⟨(y 1).val - 128 * n, by omega⟩ (by show (y 1).val = 128 * n + ((y 1).val - 128 * n); omega)).trans ?_
      rw [if_pos (by omega)]
      refine (pk_pair _ _ _).trans ?_
      unfold Cq
      show (if (y 1).val - 128 * n < 64 then _ else _) = _
      by_cases h : (y 1).val - 128 * n < 64
      · rw [if_pos h, show (y 1).val / 64 = 2 * n by omega]
        exact congrArg (fun j => (pk (grp x0 (2 * n)) (ix2 (y 0) j)).setWidth 8) (Fin.ext (by show ((y 1).val - 128 * n) % 64 = (y 1).val % 64; omega))
      · rw [if_neg h, show (y 1).val / 64 = 2 * n + 1 by omega]
        exact congrArg (fun j => (pk (grp x0 (2 * n + 1)) (ix2 (y 0) j)).setWidth 8) (Fin.ext (by show ((y 1).val - 128 * n) % 64 = (y 1).val % 64; omega))
    refine (cols_miss _ _ _ o0 _ _ _ y (by simp only [Fin.val_zero, Fin.val_one]; omega)).trans ?_
    rw [ih (by omega)]
    by_cases h : (y 1).val < 128 * n
    · rw [if_pos h, if_pos (by omega)]
    · rw [if_neg h, if_neg (by omega)]

end Cert.KernelIdeal.Hand

end
-- ==== Proof.KiChain.lean ====
/- The 28 K tiles of the product, chained: what the accumulator holds after each tile. (The idealized kernel.) -/
module

public import proofs.«01_k».proof.Proof.Gen.KernelIdeal.Frame
public import proofs.«01_k».proof.Proof.Gen.KernelIdeal.Loops
public import Idealize.ShloMosaic.Lib.WritesUnit
public import Idealize.ShloMosaic.Lib.VecWindow
public import Idealize.ShloMosaic.Lib.Pointwise
public import Idealize.ShloMosaic.Lib.WholeRead

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The matmul's arithmetic: one K tile's step and the chain of all 28. -/

/-- Rows `o … o + 127` of the packed weights. -/
def prows (x : Vec F S3584x512 .i8) (o : ℕ) : Vec F S128x512 .i8 := fun y => x (ix2 ⟨(o + (y 0).val) % 3584, Nat.mod_lt _ (by decide)⟩ (y 1))
/-- Rows `o`, `o + 1` of the weight scales. -/
def wrows (x : Vec F S56x512 .f32) (o : ℕ) : Vec F S2x512 .f32 := fun y => x (ix2 ⟨(o + (y 0).val) % 56, Nat.mod_lt _ (by decide)⟩ (y 1))
/-- Channels `o … o + 255` of the dequantised activation. -/
def acols (x : Vec F S256x7168 .bf16) (o : ℕ) : Vec F S256x256 .bf16 := fun y => x (ix2 (y 0) ⟨(o + (y 1).val) % 7168, Nat.mod_lt _ (by decide)⟩)

/-- A load of a band of rows of the packed weights reads those rows of the block. -/
theorem ld_prows {arg : Memref sig .tc .vmem S3584x512 .i8} (h : arg.IsWhole) (x : Vec F S3584x512 .i8) (o : ℕ) (inb) :
    View.readAt (Elt F) arg.view (Rect.unit (s := S3584x512) ![o, 0] ![128, 512] inb).toLoadRect (h.unread x) = prows x o := by
  funext y
  rw [h.readAt_unread]
  unfold prows
  refine congrArg x (funext fun a => Fin.ext ?_)
  have hi : o + 128 ≤ 3584 := inb 0
  have hy : (y 0).val < 128 := (y 0).isLt
  match a with
  | ⟨0, _⟩ => show o + 1 * (y 0).val = (o + (y 0).val) % 3584; omega
  | ⟨1, _⟩ => show 0 + 1 * (y 1).val = (y 1).val; omega

/-- A load of a row of the weight scales reads that row of the block. -/
theorem ld_wrows {arg : Memref sig .tc .vmem S56x512 .f32} (h : arg.IsWhole) (x : Vec F S56x512 .f32) (o : ℕ) (inb) :
    View.readAt (Elt F) arg.view (Rect.unit (s := S56x512) ![o, 0] ![2, 512] inb).toLoadRect (h.unread x) = wrows x o := by
  funext y
  rw [h.readAt_unread]
  unfold wrows
  refine congrArg x (funext fun a => Fin.ext ?_)
  have hi : o + 2 ≤ 56 := inb 0
  have hy : (y 0).val < 2 := (y 0).isLt
  match a with
  | ⟨0, _⟩ => show o + 1 * (y 0).val = (o + (y 0).val) % 56; omega
  | ⟨1, _⟩ => show 0 + 1 * (y 1).val = (y 1).val; omega

/-- A load of a band of columns of the scratch reads those columns of the dequantised activations. -/
theorem ld_acols {arg : Memref sig .tc .vmem S256x7168 .bf16} (h : arg.IsWhole) (x : Vec F S256x7168 .bf16) (o : ℕ) (inb) :
    View.readAt (Elt F) arg.view (Rect.unit (s := S256x7168) ![0, o] ![256, 256] inb).toLoadRect (h.unread x) = acols x o := by
  funext y
  rw [h.readAt_unread]
  unfold acols
  refine congrArg x (funext fun a => Fin.ext ?_)
  have hi : o + 256 ≤ 7168 := inb 1
  have hy : (y 1).val < 256 := (y 1).isLt
  match a with
  | ⟨0, _⟩ => show 0 + 1 * (y 0).val = (y 0).val; omega
  | ⟨1, _⟩ => show o + 1 * (y 1).val = (o + (y 1).val) % 7168; omega

/-- A store of a whole buffer leaves the value stored. -/
theorem store_whole {κ : Kind} {sp : Space} {a b : ℕ} {e : EltTy} (v : View sig κ sp ⟨2, ![a, b]⟩ e) (f : v.ty.Contents (Elt F))
    (inb) (w : (⟨2, ![a, b]⟩ : Shape).Idx → Elt F e) :
    v.read (Elt F) (v.writes (Elt F) f [⟨Rect.unit (s := ⟨2, ![a, b]⟩) ![0, 0] ![a, b] inb, w⟩]) = w := by
  funext y
  exact View.read_writes_cons_unit_of_mem v f inb w [] y y rfl fun d => by
    match d with
    | ⟨0, _⟩ => show (y 0).val = 0 + (y 0).val; omega
    | ⟨1, _⟩ => show (y 1).val = 0 + (y 1).val; omega

/-- The dequantised K tile: the 128 packed bytes rows unpacked into 256 signed code rows, each half times its scale row. -/
def wt (v4 : Vec F S128x512 .i8) (v20 : Vec F S2x512 .f32) : FVec F S256x512 .bf16 :=
  have v5 : IVec S128x512 32 := extui 32 v4 natLt_8_32
  have v6 : IVec S128x512 32 := broadcast S128x512 28#32
  have v7 : IVec S128x512 32 := shli v5 v6
  have v8 : IVec S128x512 32 := broadcast S128x512 28#32
  have v9 : IVec S128x512 32 := shrsi v7 v8
  have v10 : IVec S128x512 32 := broadcast S128x512 24#32
  have v11 : IVec S128x512 32 := shli v5 v10
  have v12 : IVec S128x512 32 := broadcast S128x512 28#32
  have v13 : IVec S128x512 32 := shrsi v11 v12
  have v14 : IVec S128x1x512 32 := shapeCast S128x1x512 v9 shapeCasts_S128x512_S128x1x512
  have v15 : IVec S128x1x512 32 := shapeCast S128x1x512 v13 shapeCasts_S128x512_S128x1x512
  have v16 : IVec S128x2x512 32 := concatenate S128x2x512 1 [⟨S128x1x512, v14⟩, ⟨S128x1x512, v15⟩] concatenates_S128x1x512_S128x1x512_S128x2x512_d1
  have v17 : IVec S256x512 32 := shapeCast S256x512 v16 shapeCasts_S128x2x512_S256x512
  have v18 : IVec S256x512 4 := trunci 4 v17 natLt_4_32
  have v19 : FVec F S256x512 .bf16 := sitofp .bf16 v18
  have v21 : FVec F S2x512 .bf16 := truncf .bf16 v20 bitsLt_bf16_f32
  have v22 : FVec F S128x512 .bf16 := extractStridedSlice S128x512 ![0, 0] v19 slices_S256x512_o0_0_S128x512
  have v23 : FVec F S1x512 .bf16 := extractStridedSlice S1x512 ![0, 0] v21 slices_S2x512_o0_0_S1x512
  have v24 : FVec F S128x512 .bf16 := broadcastTo S128x512 v23 broadcasts_S1x512_S128x512
  have v25 : FVec F S128x512 .bf16 := mulf v22 v24
  have v26 : FVec F S128x512 .bf16 := extractStridedSlice S128x512 ![128, 0] v19 slices_S256x512_o128_0_S128x512
  have v27 : FVec F S1x512 .bf16 := extractStridedSlice S1x512 ![1, 0] v21 slices_S2x512_o1_0_S1x512
  have v28 : FVec F S128x512 .bf16 := broadcastTo S128x512 v27 broadcasts_S1x512_S128x512
  have v29 : FVec F S128x512 .bf16 := mulf v26 v28
  concatenate S256x512 0 [⟨S128x512, v25⟩, ⟨S128x512, v29⟩] concatenates_S128x512_S128x512_S256x512_d0

/-- One K tile: the accumulator plus the activation tile times the dequantised weight tile. -/
def stepK (a : FVec F S256x512 .f32) (p : Vec F S128x512 .i8) (w : Vec F S2x512 .f32) (x : Vec F S256x256 .bf16) : FVec F S256x512 .f32 :=
  addf a (matmul dot_S256x256_S256x512_S256x512_1_0_0_1_n_n none x (wt p w) (constant S256x512 .f32 0x00000000#32))

/-- K tile `k`'s step on the whole operands. -/
def stp (x1 : Vec F S3584x512 .i8) (x2 : Vec F S56x512 .f32) (A : Vec F S256x7168 .bf16) (k : ℕ) (a : FVec F S256x512 .f32) : FVec F S256x512 .f32 :=
  stepK a (prows x1 (128 * k)) (wrows x2 (2 * k)) (acols A (256 * k))

/-- The accumulator after the first `n` K tiles. -/
def accN (x1 : Vec F S3584x512 .i8) (x2 : Vec F S56x512 .f32) (A : Vec F S256x7168 .bf16) : ℕ → FVec F S256x512 .f32
  | 0 => broadcast S256x512 (Scalar.ofBits (F := F) .f32 0x00000000#32)
  | n + 1 => stp x1 x2 A n (accN x1 x2 A n)

/-- The block of the output the body stores: all 28 K tiles, rounded to bf16. -/
def Yb (x1 : Vec F S3584x512 .i8) (x2 : Vec F S56x512 .f32) (A : Vec F S256x7168 .bf16) : FVec F S256x512 .bf16 :=
  truncf .bf16 (accN x1 x2 A 28) bitsLt_bf16_f32

end Cert.KernelIdeal.Hand

end
-- ==== Proof.KiBody.lean ====
/- The kernel body at one grid point: what it reads, and what it leaves in its windows and scratch. (The idealized kernel.) -/
module

public import proofs.«01_k».proof.Proof.Gen.KernelIdeal.Frame
public import proofs.«01_k».proof.Proof.Gen.KernelIdeal.Loops
public import Idealize.ShloMosaic.Lib.WritesUnit
public import Idealize.ShloMosaic.Lib.VecWindow
public import Idealize.ShloMosaic.Lib.Pointwise
public import Idealize.ShloMosaic.Lib.WholeRead
public import proofs.«01_k».proof.Proof.KiLoop
public import proofs.«01_k».proof.Proof.KiChain

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The body's run at the points after the first: the quantising region is skipped. -/

set_option maxHeartbeats 1000000 in
/-- At a point after the first the body reads its weight blocks and the dequantised activation and stores the output block. -/
theorem runB (c : Dev nD) (i : grid0.Coords) (arg1 : Memref sig .tc .vmem S256x7168 .bf16) (harg1 : arg1.IsWhole) (arg2 : Memref sig .tc .vmem S3584x512 .i8) (harg2 : arg2.IsWhole) (arg3 : Memref sig .tc .vmem S56x512 .f32) (harg3 : arg3.IsWhole) (arg4 : Memref sig .tc .vmem S256x512 .bf16) (harg4 : arg4.IsWhole) (arg5 : Memref sig .tc .vmem S256x3584 .i8) (harg5 : arg5.IsWhole) (arg6 : Memref sig .tc .vmem S256x56 .f32) (harg6 : arg6.IsWhole) (arg7 : Memref sig .tc .vmem S256x56 .i8) (harg7 : arg7.IsWhole) (arg8 : Memref sig .tc .vmem S256x7168 .bf16) (harg8 : arg8.IsWhole) (hc0 : ¬ k0_cond1 i = 1#1)
    (x1 : Vec F S3584x512 .i8) (x2 : Vec F S56x512 .f32) (A : Vec F S256x7168 .bf16) (E : Set ℕ) (K : PUnit → sProp 𝕄) :
    iprop(owns (c : Thread nD τ) arg2 fullShare x1 ∗ owns (c : Thread nD τ) arg3 fullShare x2 ∗ (∃ d, owns (c : Thread nD τ) arg4 fullShare d) ∗ owns (c : Thread nD τ) arg8 fullShare A
        ∗ (iprop(owns (c : Thread nD τ) arg2 fullShare x1 ∗ owns (c : Thread nD τ) arg3 fullShare x2 ∗ owns (c : Thread nD τ) arg4 fullShare (Yb x1 x2 A) ∗ owns (c : Thread nD τ) arg8 fullShare A) -∗ K ⟨⟩))
      ⊢ wp frame (wpE (defs₀ (F := F)) Variants.none c none) E (cc0__body i arg1 harg1 arg2 harg2 arg3 harg3 arg4 harg4 arg5 harg5 arg6 harg6 arg7 harg7 arg8 harg8) K := by
  simp only [cc0__body_eq_skeleton]; unfold cc0__body_skel
  simp only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
  unfold owns
  iintro ⟨⟨%f1, %hf1, H1⟩, ⟨%f2, %hf2, H2⟩, ⟨%d3, %f3, -, H3⟩, ⟨%fs0, %hfs0, HS0⟩, Hk⟩
  obtain rfl := harg2.eq_unread hf1; obtain rfl := harg3.eq_unread hf2; obtain rfl := harg8.eq_unread hfs0
  sl_exec (disch := first | sl_exact hc0)
  sl_step
  iapply Hk
  isplitl [H1]
  · iexists _; isplitr; · ipureintro; exact harg2.read_unread _
    iexact H1
  isplitl [H2]
  · iexists _; isplitr; · ipureintro; exact harg3.read_unread _
    iexact H2
  isplitl [H3]
  · iexists _; isplitr; swap; · iexact H3
    ipureintro
    refine (store_whole _ _ _ _).trans ?_
    sl_unfold_words
    simp only [ld_prows, ld_wrows, ld_acols]
    rfl
  iexists _; isplitr; · ipureintro; exact harg8.read_unread _
  iexact HS0

/-- The quantising loop makes 28 trips, of two groups each. -/
theorem trips28 : Scf.trips k0_t1_loop.lb k0_t1_loop.ub k0_t1_loop.st = 28 := by decide +kernel

/-- After the quantising loop the scratch holds the dequantised activation. -/
theorem arg8_after (𝒱 : Variants) (c : Dev nD) (bd : Option 𝒱.V) (i : grid0.Coords) (arg1 : Memref sig .tc .vmem S256x7168 .bf16) (harg1 : arg1.IsWhole) (arg2 : Memref sig .tc .vmem S3584x512 .i8) (harg2 : arg2.IsWhole) (arg3 : Memref sig .tc .vmem S56x512 .f32) (harg3 : arg3.IsWhole) (arg4 : Memref sig .tc .vmem S256x512 .bf16) (harg4 : arg4.IsWhole) (arg5 : Memref sig .tc .vmem S256x3584 .i8) (harg5 : arg5.IsWhole) (arg6 : Memref sig .tc .vmem S256x56 .f32) (harg6 : arg6.IsWhole) (arg7 : Memref sig .tc .vmem S256x56 .i8) (harg7 : arg7.IsWhole) (arg8 : Memref sig .tc .vmem S256x7168 .bf16) (harg8 : arg8.IsWhole) (h1 : k0_cond1 i = 1#1) (x0 : Vec F S256x7168 .bf16) (G : BufTy.Contents (Elt F) arg8.view.ty) :
    arg8.view.writes (Elt F) G (st_k0_t1 (F := F) 𝒱 c bd i arg1 harg1 arg2 harg2 arg3 harg3 arg4 harg4 arg5 harg5 arg6 harg6 arg7 harg7 arg8 harg8 h1 (iota .tc S256x128 32 [1] iota_S256x128_d1_w32) (harg1.unread x0) (k0_pay19 (F := F), k0_pay19 (F := F)) (Scf.trips k0_t1_loop.lb k0_t1_loop.ub k0_t1_loop.st)).2.2 = harg8.unread (Aq x0) := by
  refine harg8.eq_unread ?_
  funext y
  rw [trips28, st_deq _ _ _ _ _ _ _ _ _ _ _ _ _ _ _ _ _ _ _ _ _ _ _ _ _ _ (by omega)]
  have hy : (y 1).val < 7168 := (y 1).isLt
  rw [if_pos (by omega)]

/-- After the quantising loop the codes' buffer holds the packed codes. -/
theorem arg5_after (𝒱 : Variants) (c : Dev nD) (bd : Option 𝒱.V) (i : grid0.Coords) (arg1 : Memref sig .tc .vmem S256x7168 .bf16) (harg1 : arg1.IsWhole) (arg2 : Memref sig .tc .vmem S3584x512 .i8) (harg2 : arg2.IsWhole) (arg3 : Memref sig .tc .vmem S56x512 .f32) (harg3 : arg3.IsWhole) (arg4 : Memref sig .tc .vmem S256x512 .bf16) (harg4 : arg4.IsWhole) (arg5 : Memref sig .tc .vmem S256x3584 .i8) (harg5 : arg5.IsWhole) (arg6 : Memref sig .tc .vmem S256x56 .f32) (harg6 : arg6.IsWhole) (arg7 : Memref sig .tc .vmem S256x56 .i8) (harg7 : arg7.IsWhole) (arg8 : Memref sig .tc .vmem S256x7168 .bf16) (harg8 : arg8.IsWhole) (h1 : k0_cond1 i = 1#1) (x0 : Vec F S256x7168 .bf16) (G : BufTy.Contents (Elt F) arg5.view.ty) :
    arg5.view.writes (Elt F) G (st_k0_t1 (F := F) 𝒱 c bd i arg1 harg1 arg2 harg2 arg3 harg3 arg4 harg4 arg5 harg5 arg6 harg6 arg7 harg7 arg8 harg8 h1 (iota .tc S256x128 32 [1] iota_S256x128_d1_w32) (harg1.unread x0) (k0_pay19 (F := F), k0_pay19 (F := F)) (Scf.trips k0_t1_loop.lb k0_t1_loop.ub k0_t1_loop.st)).2.1 = harg5.unread (Cq x0) := by
  refine harg5.eq_unread ?_
  funext y
  rw [trips28, st_codes _ _ _ _ _ _ _ _ _ _ _ _ _ _ _ _ _ _ _ _ _ _ _ _ _ _ (by omega)]
  have hy : (y 1).val < 3584 := (y 1).isLt
  rw [if_pos (by omega)]

/-- After the quantising loop the carried vectors hold every group's scale and zero point. -/
theorem carried_after (𝒱 : Variants) (c : Dev nD) (bd : Option 𝒱.V) (i : grid0.Coords) (arg1 : Memref sig .tc .vmem S256x7168 .bf16) (harg1 : arg1.IsWhole) (arg2 : Memref sig .tc .vmem S3584x512 .i8) (harg2 : arg2.IsWhole) (arg3 : Memref sig .tc .vmem S56x512 .f32) (harg3 : arg3.IsWhole) (arg4 : Memref sig .tc .vmem S256x512 .bf16) (harg4 : arg4.IsWhole) (arg5 : Memref sig .tc .vmem S256x3584 .i8) (harg5 : arg5.IsWhole) (arg6 : Memref sig .tc .vmem S256x56 .f32) (harg6 : arg6.IsWhole) (arg7 : Memref sig .tc .vmem S256x56 .i8) (harg7 : arg7.IsWhole) (arg8 : Memref sig .tc .vmem S256x7168 .bf16) (harg8 : arg8.IsWhole) (h1 : k0_cond1 i = 1#1) (x0 : Vec F S256x7168 .bf16) :
    (st_k0_t1 (F := F) 𝒱 c bd i arg1 harg1 arg2 harg2 arg3 harg3 arg4 harg4 arg5 harg5 arg6 harg6 arg7 harg7 arg8 harg8 h1 (iota .tc S256x128 32 [1] iota_S256x128_d1_w32) (harg1.unread x0) (k0_pay19 (F := F), k0_pay19 (F := F)) (Scf.trips k0_t1_loop.lb k0_t1_loop.ub k0_t1_loop.st)).1 = (lanes k0_pay4 x0 56, lanes k0_pay5 x0 56) := by
  rw [trips28, st_carried _ _ _ _ _ _ _ _ _ _ _ _ _ _ _ _ _ _ _ _ _ _ _ (by omega)]

set_option maxHeartbeats 1000000 in
/-- At the first point the body also quantises the activation: it leaves the codes, scales, zero points and the
    dequantised activation, and computes its output block from them. -/
theorem runA (c : Dev nD) (i : grid0.Coords) (arg1 : Memref sig .tc .vmem S256x7168 .bf16) (harg1 : arg1.IsWhole) (arg2 : Memref sig .tc .vmem S3584x512 .i8) (harg2 : arg2.IsWhole) (arg3 : Memref sig .tc .vmem S56x512 .f32) (harg3 : arg3.IsWhole) (arg4 : Memref sig .tc .vmem S256x512 .bf16) (harg4 : arg4.IsWhole) (arg5 : Memref sig .tc .vmem S256x3584 .i8) (harg5 : arg5.IsWhole) (arg6 : Memref sig .tc .vmem S256x56 .f32) (harg6 : arg6.IsWhole) (arg7 : Memref sig .tc .vmem S256x56 .i8) (harg7 : arg7.IsWhole) (arg8 : Memref sig .tc .vmem S256x7168 .bf16) (harg8 : arg8.IsWhole) (hc0 : k0_cond1 i = 1#1)
    (x0 : Vec F S256x7168 .bf16) (x1 : Vec F S3584x512 .i8) (x2 : Vec F S56x512 .f32) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare (Yb x1 x2 (Aq x0)) ∗ owns (c : Thread nD τ) arg5 fullShare (Cq x0) ∗ owns (c : Thread nD τ) arg6 fullShare (Sq x0) ∗ owns (c : Thread nD τ) arg7 fullShare (Zq x0) ∗ owns (c : Thread nD τ) arg8 fullShare (Aq x0)) -∗ K ⟨⟩))
      ⊢ wp frame (wpE (defs₀ (F := F)) Variants.none c none) E (cc0__body i arg1 harg1 arg2 harg2 arg3 harg3 arg4 harg4 arg5 harg5 arg6 harg6 arg7 harg7 arg8 harg8) K := by
  simp only [cc0__body_eq_skeleton]; unfold cc0__body_skel
  simp only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%ds0, %fs0, -, HS0⟩, Hk⟩
  obtain rfl := harg1.eq_unread hf0; obtain rfl := harg2.eq_unread hf1; obtain rfl := harg3.eq_unread hf2
  have e8 := arg8_after (F := F) Variants.none c none i arg1 harg1 arg2 harg2 arg3 harg3 arg4 harg4 arg5 harg5 arg6 harg6 arg7 harg7 arg8 harg8 hc0 x0 fs0
  have e5 := arg5_after (F := F) Variants.none c none i arg1 harg1 arg2 harg2 arg3 harg3 arg4 harg4 arg5 harg5 arg6 harg6 arg7 harg7 arg8 harg8 hc0 x0 f4
  have ec := carried_after (F := F) Variants.none c none i arg1 harg1 arg2 harg2 arg3 harg3 arg4 harg4 arg5 harg5 arg6 harg6 arg7 harg7 arg8 harg8 hc0 x0
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; swap; · iexact H3
    ipureintro
    refine (store_whole _ _ _ _).trans ?_
    sl_unfold_words
    rw [e8]
    simp only [ld_prows, ld_wrows, ld_acols]
    rfl
  isplitl [H4]
  · iexists _; isplitr; swap; · iexact H4
    ipureintro
    sl_unfold_words
    rw [e5]
    exact harg5.read_unread _
  isplitl [H5]
  · iexists _; isplitr; swap; · iexact H5
    ipureintro
    refine (store_whole _ _ _ _).trans ?_
    sl_unfold_words
    exact congrArg (fun p => k0_pay25 p.1) ec
  isplitl [H6]
  · iexists _; isplitr; swap; · iexact H6
    ipureintro
    refine (store_whole _ _ _ _).trans ?_
    sl_unfold_words
    exact congrArg (fun p => k0_pay26 p.2) ec
  iexists _; isplitr; swap; · iexact HS0
  ipureintro
  sl_unfold_words
  rw [e8]
  exact harg8.read_unread _

end Cert.KernelIdeal.Hand

end
-- ==== Proof.KiFrame.lean ====
/- The whole kernel run: the body at every grid point, the pipeline around it, and the frame claim. (The idealized kernel.) -/
module

public import proofs.«01_k».proof.Proof.Gen.KernelIdeal.Frame
public import proofs.«01_k».proof.Proof.Gen.KernelIdeal.Loops
public import Idealize.ShloMosaic.Lib.WritesUnit
public import Idealize.ShloMosaic.Lib.VecWindow
public import Idealize.ShloMosaic.Lib.Pointwise
public import Idealize.ShloMosaic.Lib.WholeRead
public import proofs.«01_k».proof.Proof.KiBody
public import Idealize.ShloMosaic.Lib.Pipeline.TableIdle
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 36 = 0 :=
  (fun t => by
    have ht : t.val < 36 := Nat.lt_of_lt_of_eq t.isLt N_0
    have e0 : (grid0.coords t 0).val = t.val / 1 % 36 := Pipeline.Grid.coords_val t 0 (by decide) rfl
    simp only [cond0_0, k0_cond1, e0]
    word_cmp
   : ∀ t : Fin grid0.N, cond0_0 (grid0.coords t) ↔ t.val % 36 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S256x7168 .bf16 := win0_0.stage (cfg0.slots t 0)
/-- The staging buffer of window 0 is a whole buffer. -/
abbrev hs0_0 (t : Fin cfg0.N) : (ms0_0 t).IsWhole := hstage0_0 ((cfg0.slots t 0).cast nbuf0_0)
/-- The staging buffer of window 1 at a grid point. -/
abbrev ms0_1 (t : Fin cfg0.N) : Memref sig .tc .vmem S3584x512 .i8 := win0_1.stage (cfg0.slots t 1)
/-- The staging buffer of window 1 is a whole buffer. -/
abbrev hs0_1 (t : Fin cfg0.N) : (ms0_1 t).IsWhole := hstage0_1 ((cfg0.slots t 1).cast nbuf0_1)
/-- The staging buffer of window 2 at a grid point. -/
abbrev ms0_2 (t : Fin cfg0.N) : Memref sig .tc .vmem S56x512 .f32 := win0_2.stage (cfg0.slots t 2)
/-- The staging buffer of window 2 is a whole buffer. -/
abbrev hs0_2 (t : Fin cfg0.N) : (ms0_2 t).IsWhole := hstage0_2 ((cfg0.slots t 2).cast nbuf0_2)
/-- The staging buffer of window 3 at a grid point. -/
abbrev ms0_3 (t : Fin cfg0.N) : Memref sig .tc .vmem S256x512 .bf16 := win0_3.stage (cfg0.slots t 3)
/-- The staging buffer of window 3 is a whole buffer. -/
abbrev hs0_3 (t : Fin cfg0.N) : (ms0_3 t).IsWhole := hstage0_3 ((cfg0.slots t 3).cast nbuf0_3)
/-- The staging buffer of window 4 at a grid point. -/
abbrev ms0_4 (t : Fin cfg0.N) : Memref sig .tc .vmem S256x3584 .i8 := win0_4.stage (cfg0.slots t 4)
/-- The staging buffer of window 4 is a whole buffer. -/
abbrev hs0_4 (t : Fin cfg0.N) : (ms0_4 t).IsWhole := hstage0_4 ((cfg0.slots t 4).cast nbuf0_4)
/-- The staging buffer of window 5 at a grid point. -/
abbrev ms0_5 (t : Fin cfg0.N) : Memref sig .tc .vmem S256x56 .f32 := win0_5.stage (cfg0.slots t 5)
/-- The staging buffer of window 5 is a whole buffer. -/
abbrev hs0_5 (t : Fin cfg0.N) : (ms0_5 t).IsWhole := hstage0_5 ((cfg0.slots t 5).cast nbuf0_5)
/-- The staging buffer of window 6 at a grid point. -/
abbrev ms0_6 (t : Fin cfg0.N) : Memref sig .tc .vmem S256x56 .i8 := win0_6.stage (cfg0.slots t 6)
/-- The staging buffer of window 6 is a whole buffer. -/
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S256x7168 .bf16 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## The pipeline's proof data -/

/-- The grid has at least one point. -/
theorem pos36 : 0 < cfg0.N := by rw [show cfg0.N = 36 from N_0]; decide

/-- The whole activation as the kernel reads it. -/
def X0 (c : Dev nD) : Vec F S256x7168 .bf16 := iblk m c 0 ⟨0, pos36⟩

/-- The proof data: each input's buffer holds its block; the output window holds the point's product block; the codes',
    scales' and zero points' windows hold them from the first point on; between points the scratch holds the
    dequantised activation. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => Yb (F := F) (iblk m c 1 t) (iblk m c 2 t) (Aq (X0 m c))
    | ⟨4, _⟩ => Cq (X0 m c)
    | ⟨5, _⟩ => Sq (X0 m c)
    | ⟨6, _⟩ => Zq (X0 m c)
  Φ t := if t.val = 0 then Pipeline.ΦA spec0 c else iprop(owns (c : Thread nD τ) scM0_0 fullShare (Aq (X0 m c)) ∗ (∃ r, prngReg c r))
  q _ := fullShare
  owed _ := 0

/-- The array behind each window is the one the region enters with. -/
theorem A_eq (c : Dev nD) (w : Fin cfg0.W) : (dats m 0 c).A w = V m c (Pipeline.arrRef spec0 w) := by
  dsimp only [dats]

/-- After the body the activations block is unchanged. -/
theorem after0_0 (c : Dev nD) (t : Fin cfg0.N) : (dats m 0 c).after 0 t = iblk m c 0 t := by dsimp only [dats]
/-- After the body the packed-weights block is unchanged. -/
theorem after0_1 (c : Dev nD) (t : Fin cfg0.N) : (dats m 0 c).after 1 t = iblk m c 1 t := by dsimp only [dats]
/-- After the body the weight-scales block is unchanged. -/
theorem after0_2 (c : Dev nD) (t : Fin cfg0.N) : (dats m 0 c).after 2 t = iblk m c 2 t := by dsimp only [dats]
/-- After the body the output block holds the value `Yb` of the blocks read. -/
theorem after0_3 (c : Dev nD) (t : Fin cfg0.N) : (dats m 0 c).after 3 t = Yb (F := F) (iblk m c 1 t) (iblk m c 2 t) (Aq (X0 m c)) := by dsimp only [dats]
/-- After the body the packed-codes block holds the codes of the activations. -/
theorem after0_4 (c : Dev nD) (t : Fin cfg0.N) : (dats m 0 c).after 4 t = Cq (X0 m c) := by dsimp only [dats]
/-- After the body the scales block holds the scales of the activations. -/
theorem after0_5 (c : Dev nD) (t : Fin cfg0.N) : (dats m 0 c).after 5 t = Sq (X0 m c) := by dsimp only [dats]
/-- After the body the zero-points block holds the zero points of the activations. -/
theorem after0_6 (c : Dev nD) (t : Fin cfg0.N) : (dats m 0 c).after 6 t = Zq (X0 m c) := by dsimp only [dats]

/-- Before the body window 0 holds its block of the activations. -/
theorem before0_0 (c : Dev nD) (t : Fin cfg0.N) (d) : (dats m 0 c).before 0 t d = iblk m c 0 t :=
  before0_0_of m (dats m 0 c) (A_eq m c 0) (after0_0 m c) t d
/-- Before the body window 1 holds its block of the packed weights. -/
theorem before0_1 (c : Dev nD) (t : Fin cfg0.N) (d) : (dats m 0 c).before 1 t d = iblk m c 1 t :=
  before0_1_of m (dats m 0 c) (A_eq m c 1) (after0_1 m c) t d
/-- Before the body window 2 holds its block of the weight scales. -/
theorem before0_2 (c : Dev nD) (t : Fin cfg0.N) (d) : (dats m 0 c).before 2 t d = iblk m c 2 t :=
  before0_2_of m (dats m 0 c) (A_eq m c 2) (after0_2 m c) t d

/-- Window 4 is not renewed after the first grid point. -/
theorem fresh0_4 : ∀ t : Fin cfg0.N, t.val ≠ 0 → cfg0.fresh 4 t.val = false := by decide +kernel
/-- After the first point window 4 still holds what the first point left. -/
theorem before0_4 (c : Dev nD) (t : Fin cfg0.N) (ht : t.val ≠ 0) (d) : (dats m 0 c).before 4 t d = Cq (X0 m c) := by
  rw [(dats m 0 c).before_out_traj 4 rfl (fun _ _ => rfl) (fun t _ _ _ => by rw [after0_4, after0_4]) t.val t rfl d,
    fresh0_4 t ht]
  exact after0_4 m c _
/-- The body writes window 4 at the first grid point. -/
theorem live0_4 : ∀ t : Fin cfg0.N, t.val = 0 → cfg0.idle 4 (grid0.coords t) = false := by decide +kernel
/-- Handing the window back as it is meets what the pipeline asks of it. -/
theorem keep0_4 (c : Dev nD) (t : Fin cfg0.N) (ht : t.val ≠ 0) :
    owns (c : Thread nD τ) (ms0_4 t) fullShare (Cq (X0 m c)) ⊢ ((dats m 0 c).leavesExact 4 t : sProp 𝕄) := by
  unfold Dat.leavesExact
  cases cfg0.idle 4 (cfg0.grid.coords t)
  · rw [after0_4]
  · cases (cfg0.win 4).flush t
    · iintro H
      iexists fun _ => Inhabited.default
      rw [before0_4 m c t ht]
      iexact H
    · rw [after0_4]

/-- Window 5 is not renewed after the first grid point. -/
theorem fresh0_5 : ∀ t : Fin cfg0.N, t.val ≠ 0 → cfg0.fresh 5 t.val = false := by decide +kernel
/-- After the first point window 5 still holds what the first point left. -/
theorem before0_5 (c : Dev nD) (t : Fin cfg0.N) (ht : t.val ≠ 0) (d) : (dats m 0 c).before 5 t d = Sq (X0 m c) := by
  rw [(dats m 0 c).before_out_traj 5 rfl (fun _ _ => rfl) (fun t _ _ _ => by rw [after0_5, after0_5]) t.val t rfl d,
    fresh0_5 t ht]
  exact after0_5 m c _
/-- The body writes window 5 at the first grid point. -/
theorem live0_5 : ∀ t : Fin cfg0.N, t.val = 0 → cfg0.idle 5 (grid0.coords t) = false := by decide +kernel
/-- Handing the window back as it is meets what the pipeline asks of it. -/
theorem keep0_5 (c : Dev nD) (t : Fin cfg0.N) (ht : t.val ≠ 0) :
    owns (c : Thread nD τ) (ms0_5 t) fullShare (Sq (X0 m c)) ⊢ ((dats m 0 c).leavesExact 5 t : sProp 𝕄) := by
  unfold Dat.leavesExact
  cases cfg0.idle 5 (cfg0.grid.coords t)
  · rw [after0_5]
  · cases (cfg0.win 5).flush t
    · iintro H
      iexists fun _ => Inhabited.default
      rw [before0_5 m c t ht]
      iexact H
    · rw [after0_5]

/-- Window 6 is not renewed after the first grid point. -/
theorem fresh0_6 : ∀ t : Fin cfg0.N, t.val ≠ 0 → cfg0.fresh 6 t.val = false := by decide +kernel
/-- After the first point window 6 still holds what the first point left. -/
theorem before0_6 (c : Dev nD) (t : Fin cfg0.N) (ht : t.val ≠ 0) (d) : (dats m 0 c).before 6 t d = Zq (X0 m c) := by
  rw [(dats m 0 c).before_out_traj 6 rfl (fun _ _ => rfl) (fun t _ _ _ => by rw [after0_6, after0_6]) t.val t rfl d,
    fresh0_6 t ht]
  exact after0_6 m c _
/-- The body writes window 6 at the first grid point. -/
theorem live0_6 : ∀ t : Fin cfg0.N, t.val = 0 → cfg0.idle 6 (grid0.coords t) = false := by decide +kernel
/-- Handing the window back as it is meets what the pipeline asks of it. -/
theorem keep0_6 (c : Dev nD) (t : Fin cfg0.N) (ht : t.val ≠ 0) :
    owns (c : Thread nD τ) (ms0_6 t) fullShare (Zq (X0 m c)) ⊢ ((dats m 0 c).leavesExact 6 t : sProp 𝕄) := by
  unfold Dat.leavesExact
  cases cfg0.idle 6 (cfg0.grid.coords t)
  · rw [after0_6]
  · cases (cfg0.win 6).flush t
    · iintro H
      iexists fun _ => Inhabited.default
      rw [before0_6 m c t ht]
      iexact H
    · rw [after0_6]

/-! ## The body obligation -/

/-- What the body owns when it starts at a grid point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- What the body owns when it ends at a grid point. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

/-- The body writes the output window at every grid point. -/
theorem live0_3 : ∀ t : Fin cfg0.N, cfg0.idle 3 (grid0.coords t) = false := fun _ => rfl

/-- After any grid point the scratch holds the dequantised activations. -/
theorem phi_succ (c : Dev nD) (t : Fin cfg0.N) : (dats m 0 c).Φ t.succ = iprop(owns (c : Thread nD τ) scM0_0 fullShare (Aq (X0 m c)) ∗ (∃ r, prngReg c r)) := by
  dsimp only [dats]
  exact if_neg (by rw [Fin.val_succ]; omega)

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl, phi_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [live0_3 t], after0_3]
  have hN : t.val < 36 := lt_of_lt_of_eq t.isLt (show cfg0.N = 36 from N_0)
  by_cases h0 : t.val = 0
  · rw [show (dats m 0 c).Φ t.castSucc = Pipeline.ΦA spec0 c from by dsimp only [dats]; exact if_pos h0, PhiA0_eq]
    have ex : iblk m c 0 t = X0 m c := by unfold X0; rw [show t = ⟨0, pos36⟩ from Fin.ext h0]
    rw [show (dats m 0 c).leavesExact 4 t = owns (c : Thread nD τ) (ms0_4 t) fullShare ((dats m 0 c).after 4 t) from by
      unfold Dat.leavesExact; rw [live0_4 t h0], after0_4]
    rw [show (dats m 0 c).leavesExact 5 t = owns (c : Thread nD τ) (ms0_5 t) fullShare ((dats m 0 c).after 5 t) from by
      unfold Dat.leavesExact; rw [live0_5 t h0], after0_5]
    rw [show (dats m 0 c).leavesExact 6 t = owns (c : Thread nD τ) (ms0_6 t) fullShare ((dats m 0 c).after 6 t) from by
      unfold Dat.leavesExact; rw [live0_6 t h0], after0_6]
    rw [ex]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
    iapply ((runA c (grid0.coords t) _ _ _ _ _ _ _ _ _ _ _ _ _ _ _ _ ((hcond0_0 t).mpr (by omega)) (X0 m c) (iblk m c 1 t) (iblk m c 2 t)) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexists _; iexact H6
    isplitl [HS0]; · iexact HS0
    iintro ⟨H0, H1, H2, H3, H4, H5, H6, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [show (dats m 0 c).Φ t.castSucc = iprop(owns (c : Thread nD τ) scM0_0 fullShare (Aq (X0 m c)) ∗ (∃ r, prngReg c r)) from by dsimp only [dats]; exact if_neg h0]
    simp only [before0_4 m c t h0, before0_5 m c t h0, before0_6 m c t h0]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
    iapply ((runB c (grid0.coords t) _ _ _ _ _ _ _ _ _ _ _ _ _ _ _ _ (fun h => h0 (by have := (hcond0_0 t).mp h; omega)) (iblk m c 1 t) (iblk m c 2 t) (Aq (X0 m c))) Set.univ _)
    isplitl [H1]; · iexact H1
    isplitl [H2]; · iexact H2
    isplitl [H3]; · iexists _; iexact H3
    isplitl [HS0]; · iexact HS0
    iintro ⟨H1, H2, H3, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iapply (keep0_4 m c t h0); iexact H4
    isplitl [H5]; · iapply (keep0_5 m c t h0); iexact H5
    iapply (keep0_6 m c t h0); iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body meets its specification at every grid point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

/-- The scratch owned on entry gives the state before the first grid point. -/
theorem phi_in (c : Dev nD) : Pipeline.ΦA spec0 c ⊢ ((dats m 0 c).Φ 0 : sProp 𝕄) := by
  dsimp only [dats]
  rw [if_pos (show ((0 : Fin (cfg0.N + 1)).val = 0) from rfl)]

/-- The state after the last grid point gives back the scratch. -/
theorem phi_out (c : Dev nD) : (dats m 0 c).Φ (Fin.last cfg0.N) ⊢ (Pipeline.ΦA spec0 c : sProp 𝕄) := by
  dsimp only [dats]
  rw [if_neg (by have := pos36; rw [Fin.val_last]; omega), PhiA0_eq]
  iintro ⟨H, Hg⟩
  isplitl [H]
  · iexists _; iexact H
  iexact Hg

/-- What every final state satisfies: the pipeline's arrays hold what the proof data says, the other buffers what the
    later host lines make of that, and every semaphore is at zero. -/
def Final (r : PUnit × MemSt nD τ sig (Elt F)) : Prop :=
  Pipeline.FramePost cfgs (dats m) 0 (Pipeline.afterTail₀ cfgs (dats m) 0 (V0 m) [hostOps1]) r ∧ r.2.sem = fun _ => 0

set_option backward.isDefEq.respectTransparency.types false in
set_option maxHeartbeats 800000 in
/-- The run: every weakly fair execution terminates in such a state. -/
theorem run_final : θ_run defs (onTc (τ := τ) (main (F := F))) (s₀ m ρ) (Final m) :=
  Pipeline.θ_run_frame_around_track (Q' := Final m) cfgs (dats m) (0 : Fin 1) launch0 defs₀ Variants.none m ρ main
    (fun c => (body_obligation m c).loose) (fun c => (dats m 0 c).share_full fun _ => rfl) (fun _ _ => rfl) (V0 m) [hostOps1] sfx_sub sfx_fresh sfx_keeps (hmain m Variants.none) (A_eq m)
    (phi_in m) (phi_out m) (hQ' := fun _ h => h)

/-- The idealized kernel leaves its arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_final m ρ)))
    ((θ_run defs _ _).mono (fun _ h => h.2) (run_final m ρ))

end Cert.KernelIdeal.Hand

end
-- ==== Proof.Quant.lean ====
/- The 4-bit affine quantiser of one group of 128 channels, on extended reals: what both programs compute, and that its
   codes and zero points are the integers 0 … 15 whatever the channels are, infinities included. -/
module

public import Idealize.ShloMosaic.PureOps.Ideal
public import Idealize.ShloMosaic.PureOps.Ideal.Laws

@[expose] public section

noncomputable section

open Idealize.ShloMosaic

namespace Cert.Quant

/-- The lower end of the range: the least channel, or zero. -/
def lo (v : Fin 128 → EReal) : EReal := min 0 (Finset.univ.fold min (Ideal.ofBits .f32 0x7F800000#32) v)

/-- The upper end of the range: the greatest channel, or zero. -/
def hi (v : Fin 128 → EReal) : EReal := max 0 (Finset.univ.fold max (Ideal.ofBits .f32 0xFF800000#32) v)

/-- The scale of the range `a … b`: a fifteenth of its width, or one where it is empty. -/
def scl (a b : EReal) : EReal := if b = a then 1 else Ideal.div (b - a) (Ideal.ofBits .f32 0x41700000#32)

/-- The zero point of the range `a … b`. -/
def zpt (a b : EReal) : EReal := Ideal.liftRound Ideal.roundHalfEven (Ideal.div (-a) (scl a b))

/-- The code of the channel value `x` in the range `a … b`. -/
def code (a b x : EReal) : EReal :=
  min (Ideal.ofBits .f32 0x41700000#32)
    (max 0 (Ideal.liftRound Ideal.roundHalfEven (Ideal.div x (scl a b)) + zpt a b))

/-- The constant 15 is the real number 15. -/
theorem ofBits_15 : Ideal.ofBits .f32 0x41700000#32 = ((15 : ℝ) : EReal) := by
  simp [Ideal.ofBits, Ideal.ieee, -EReal.coe_mul]; norm_num

/-- The constant 16 is the real number 16. -/
theorem ofBits_16 : Ideal.ofBits .f32 0x41800000#32 = ((16 : ℝ) : EReal) := by
  simp [Ideal.ofBits, Ideal.ieee, -EReal.coe_mul]; norm_num

/-- The lower end of the range of a group is at most zero. -/
theorem lo_nonpos (v : Fin 128 → EReal) : lo v ≤ 0 := min_le_left _ _
/-- The upper end of the range of a group is at least zero. -/
theorem hi_nonneg (v : Fin 128 → EReal) : 0 ≤ hi v := le_max_left _ _

/-- Rounding to nearest even keeps a real between two integers between them. -/
theorem round_mem {r : ℝ} {n : ℤ} (h0 : 0 ≤ r) (hn : r ≤ n) : 0 ≤ Ideal.roundHalfEven r ∧ Ideal.roundHalfEven r ≤ n := by
  have hf : 0 ≤ ⌊r⌋ := Int.floor_nonneg.2 h0
  have hfn : ⌊r⌋ ≤ n := by
    have := Int.floor_le r
    exact_mod_cast this.trans hn
  have key : ⌊r⌋ = n → r - ⌊r⌋ = 0 := fun e => by
    have := Int.floor_le r
    rw [e] at this ⊢
    linarith
  unfold Ideal.roundHalfEven
  simp only
  by_cases h1 : r - (⌊r⌋ : ℝ) < 1 / 2
  · rw [if_pos h1]; omega
  · have hlt : ⌊r⌋ < n := lt_of_le_of_ne hfn fun e => h1 (by rw [key e]; norm_num)
    rw [if_neg h1]
    split_ifs <;> omega

/-- The zero point is an integer from 0 to 15. -/
theorem zpt_nat {a b : EReal} (ha : a ≤ 0) (hb : 0 ≤ b) : ∃ n : ℕ, n ≤ 15 ∧ zpt a b = ((n : ℝ) : EReal) := by
  by_cases hab : b = a
  · have h0 : a = 0 := le_antisymm ha (hab ▸ hb)
    refine ⟨0, by omega, ?_⟩
    subst h0
    simp only [zpt, scl, hab, if_pos]
    rw [neg_zero, ← EReal.coe_one, Ideal.div_coe one_ne_zero, zero_mul, ← EReal.coe_zero, Ideal.liftRound_coe]
    simp [Ideal.roundHalfEven]
  have inf : b - a = ⊤ → ∃ n : ℕ, n ≤ 15 ∧ zpt a b = ((n : ℝ) : EReal) := fun ht => by
    refine ⟨0, by omega, ?_⟩
    have hs : scl a b = ⊤ := by
      rw [scl, if_neg hab, ht, ofBits_15, Ideal.div_coe (by norm_num)]
      exact EReal.top_mul_coe_of_pos (by norm_num)
    rw [zpt, hs, Ideal.div, if_neg EReal.top_ne_zero, EReal.inv_top, mul_zero, ← EReal.coe_zero, Ideal.liftRound_coe]
    simp [Ideal.roundHalfEven]
  induction a with
  | top => exact absurd ha (by simp)
  | bot =>
    refine inf ?_
    rw [EReal.sub_bot]
    exact fun h => by rw [h] at hb; simp at hb
  | coe a =>
    induction b with
    | bot => exact absurd hb (by simp)
    | top => exact inf (EReal.top_sub_coe a)
    | coe b =>
      have ha' : a ≤ 0 := by exact_mod_cast ha
      have hb' : 0 ≤ b := by exact_mod_cast hb
      have hne : b ≠ a := fun e => hab (by rw [e])
      have hpos : 0 < b - a := lt_of_le_of_ne (by linarith) fun e => hne (by linarith)
      have hs : scl (a : EReal) b = (((b - a) * (1 / 15) : ℝ) : EReal) := by
        rw [scl, if_neg hab, ofBits_15, Ideal.div_coe (by norm_num), ← EReal.coe_sub, ← EReal.coe_mul]
      have hz : zpt (a : EReal) b = ((Ideal.roundHalfEven (-a * (1 / ((b - a) * (1 / 15)))) : ℝ) : EReal) := by
        rw [zpt, hs, Ideal.div_coe (by positivity), ← EReal.coe_neg, ← EReal.coe_mul, Ideal.liftRound_coe]
      have h0 : 0 ≤ -a * (1 / ((b - a) * (1 / 15))) := mul_nonneg (by linarith) (by positivity)
      have h15 : -a * (1 / ((b - a) * (1 / 15))) ≤ ((15 : ℤ) : ℝ) := by
        rw [mul_one_div, div_le_iff₀ (by positivity)]
        push_cast
        linarith
      obtain ⟨r0, r15⟩ := round_mem h0 h15
      refine ⟨(Ideal.roundHalfEven (-a * (1 / ((b - a) * (1 / 15))))).toNat, by omega, ?_⟩
      rw [hz]
      congr 1
      have : ((Ideal.roundHalfEven (-a * (1 / ((b - a) * (1 / 15))))).toNat : ℤ) = Ideal.roundHalfEven (-a * (1 / ((b - a) * (1 / 15)))) :=
        Int.toNat_of_nonneg r0
      exact_mod_cast this.symm

/-- A code is an integer from 0 to 15. -/
theorem code_nat {a b : EReal} (ha : a ≤ 0) (hb : 0 ≤ b) (x : EReal) : ∃ n : ℕ, n ≤ 15 ∧ code a b x = ((n : ℝ) : EReal) := by
  obtain ⟨z, hz, ez⟩ := zpt_nat ha hb
  rw [code, ez, ofBits_15]
  generalize Ideal.div x (scl a b) = q
  induction q with
  | bot =>
    refine ⟨0, by omega, ?_⟩
    rw [Ideal.liftRound_bot, EReal.bot_add, max_eq_left bot_le]
    rw [min_eq_right (by exact_mod_cast (by norm_num : (0 : ℝ) ≤ 15))]
    simp
  | top =>
    refine ⟨15, le_rfl, ?_⟩
    rw [Ideal.liftRound_top, EReal.top_add_coe, max_eq_right le_top, min_eq_left le_top]
    norm_num
  | coe q =>
    rw [Ideal.liftRound_coe, ← EReal.coe_add, ← EReal.coe_zero]
    generalize Ideal.roundHalfEven q = i
    refine ⟨(min 15 (max 0 (i + z))).toNat, by omega, ?_⟩
    have h : ((min 15 (max 0 (i + z))).toNat : ℤ) = min 15 (max 0 (i + z)) := Int.toNat_of_nonneg (by omega)
    have h' : (((min 15 (max 0 (i + (z : ℤ)))).toNat : ℕ) : ℝ) = min (15 : ℝ) (max 0 ((i : ℝ) + z)) := by
      have := congrArg (fun k : ℤ => (k : ℝ)) h
      push_cast at this
      exact this
    rw [h']
    exact ((EReal.coe_strictMono.monotone.map_min).trans (congrArg _ EReal.coe_strictMono.monotone.map_max)).symm

/-- A float-to-integer conversion of a small natural number gives it as a word. -/
theorem fptosi_nat {n : ℕ} (h : n < 2 ^ 31) : Ideal.fptosi 32 ((n : ℝ) : EReal) = BitVec.ofNat 32 n := by
  have hn : (if (0 : ℝ) ≤ (n : ℝ) then ⌊(n : ℝ)⌋ else ⌈(n : ℝ)⌉) = (n : ℤ) := by
    rw [if_pos (Nat.cast_nonneg n), Int.floor_natCast]
  unfold Ideal.fptosi
  rw [Ideal.toIntClamped_coe, hn]
  have hc : max (-((2 ^ (32 - 1) : ℕ) : ℤ)) (min (((2 ^ (32 - 1) : ℕ) : ℤ) - 1) (n : ℤ)) = (n : ℤ) := by
    have : ((2 ^ (32 - 1) : ℕ) : ℤ) = 2147483648 := by norm_num
    omega
  rw [hc]
  exact BitVec.ofInt_natCast 32 n

/-- The byte a float code or zero point converts to. -/
def byte (x : EReal) : BitVec 8 := (Ideal.fptosi 32 x).setWidth 8

/-- The byte of a small natural number, widened, is the number. -/
theorem byte_nat {n : ℕ} (h : n ≤ 15) : (byte ((n : ℝ) : EReal)).setWidth 32 = BitVec.ofNat 32 n := by
  rw [byte, fptosi_nat (by omega)]
  apply BitVec.eq_of_toNat_eq
  simp only [BitVec.toNat_setWidth, BitVec.toNat_ofNat]
  omega

/-- Two codes packed in a word: the first in the low nibble, the second above it. -/
def packed (a b x y : EReal) : BitVec 32 :=
  (byte (code a b x)).setWidth 32 ||| ((byte (code a b y)).setWidth 32 <<< 4)

/-- A sum against the packing column of pair `i` is the even term plus sixteen times the odd one. -/
theorem sum_pair (f : Fin 128 → EReal) (i : Fin 64) :
    ∑ k : Fin 128, f k * (if k.val = 2 * i.val then 1 else if k.val = 2 * i.val + 1 then ((16 : ℝ) : EReal) else 0)
      = f ⟨2 * i.val, by omega⟩ + f ⟨2 * i.val + 1, by omega⟩ * ((16 : ℝ) : EReal) := by
  rw [Finset.sum_eq_add (⟨2 * i.val, by omega⟩ : Fin 128) ⟨2 * i.val + 1, by omega⟩ (by simp) _ (by simp) (by simp)]
  · simp
  · intro c _ hc
    have h0 : c.val ≠ 2 * i.val := fun h => hc.1 (Fin.ext h)
    have h1 : c.val ≠ 2 * i.val + 1 := fun h => hc.2 (Fin.ext h)
    rw [if_neg h0, if_neg h1, mul_zero]

/-- The even code plus sixteen times the odd one, as a word, is the two nibbles packed. -/
theorem packed_eq {a b : EReal} (ha : a ≤ 0) (hb : 0 ≤ b) (x y : EReal) :
    Ideal.fptosi 32 (code a b x + code a b y * ((16 : ℝ) : EReal)) = packed a b x y := by
  obtain ⟨n, hn, en⟩ := code_nat ha hb x
  obtain ⟨k, hk, ek⟩ := code_nat ha hb y
  have e : code a b x + code a b y * ((16 : ℝ) : EReal) = (((n + k * 16 : ℕ) : ℝ) : EReal) := by
    rw [en, ek, ← EReal.coe_mul, ← EReal.coe_add]; push_cast; rfl
  rw [e, fptosi_nat (by omega), packed, en, ek, byte_nat hn, byte_nat hk]
  have key : ∀ n k : Fin 16, BitVec.ofNat 32 (n.val + k.val * 16) = BitVec.ofNat 32 n.val ||| (BitVec.ofNat 32 k.val <<< 4) := by
    decide +kernel
  exact key ⟨n, by omega⟩ ⟨k, by omega⟩

/-- The difference of a code and a zero point, taken on the bytes they convert to, is the difference of the floats. -/
theorem sub_bytes {a b : EReal} (ha : a ≤ 0) (hb : 0 ≤ b) (x : EReal) :
    ((((byte (code a b x)).setWidth 32 - (byte (zpt a b)).setWidth 32 : BitVec 32).toInt : ℝ) : EReal) = code a b x - zpt a b := by
  obtain ⟨n, hn, en⟩ := code_nat ha hb x
  obtain ⟨k, hk, ek⟩ := zpt_nat ha hb
  rw [en, ek, byte_nat hn, byte_nat hk, ← EReal.coe_sub]
  have key : ∀ n k : Fin 16, (BitVec.ofNat 32 n.val - BitVec.ofNat 32 k.val : BitVec 32).toInt = (n.val : ℤ) - (k.val : ℤ) := by
    decide +kernel
  have := key ⟨n, by omega⟩ ⟨k, by omega⟩
  rw [this]
  push_cast
  rfl

/-- The signed 4-bit weight code in the low (`j = 0`) or the high nibble of a byte, as a 32-bit word. -/
def nib (b : BitVec 8) (j : ℕ) : BitVec 32 := ((b.setWidth 32) <<< (if j = 0 then 28 else 24)).sshiftRight 28

/-- Cutting the word of a signed nibble to four bits keeps its value. -/
theorem nib_cut (b : BitVec 8) (j : ℕ) : ((nib b j).setWidth 4).toInt = (nib b j).toInt := by
  have key : ∀ b : BitVec 8, (((b.setWidth 32 <<< 28).sshiftRight 28).setWidth 4).toInt = ((b.setWidth 32 <<< 28).sshiftRight 28).toInt
      ∧ (((b.setWidth 32 <<< 24).sshiftRight 28).setWidth 4).toInt = ((b.setWidth 32 <<< 24).sshiftRight 28).toInt := by
    decide +kernel
  unfold nib
  by_cases h : j = 0
  · rw [if_pos h]; exact (key b).1
  · rw [if_neg h]; exact (key b).2

end Cert.Quant

end
-- ==== Proof.KiRead.lean ====
/- The quantiser of the idealized kernel, read at one element over the extended reals. -/
module

public import proofs.«01_k».proof.Proof.KiVal
public import proofs.«01_k».proof.Proof.Quant

@[expose] public section

set_option maxRecDepth 16384

noncomputable section

open Idealize.ShloMosaic Idealize.SL.Sem

namespace Cert.KernelIdeal.Hand

open Cert.KernelIdeal Cert.KernelIdeal.Gen Cert.Quant

/-- Row `r` of a group's block. -/
abbrev rowOf (v : FVec Ideal S256x128 .bf16) (r : Fin 256) : Fin 128 → EReal := fun k => v (ix2 r k)

/-- The lower end of row `r`'s range. -/
theorem pay3_read (v : FVec Ideal S256x128 .bf16) (r : Fin 256) : k0_pay3 (F := Ideal) v (ix2 r 0) = lo (rowOf v r) := by
  pointwise [k0_pay3, k0_pay2]
  rfl

/-- The scale of row `r`. -/
theorem pay4_read (v : FVec Ideal S256x128 .bf16) (r : Fin 256) :
    k0_pay4 (F := Ideal) v (ix2 r 0) = scl (lo (rowOf v r)) (hi (rowOf v r)) := by
  pointwise [k0_pay4, k0_pay2, pay3_read]
  rfl

/-- The zero point of row `r`. -/
theorem pay5_read (v : FVec Ideal S256x128 .bf16) (r : Fin 256) :
    k0_pay5 (F := Ideal) v (ix2 r 0) = zpt (lo (rowOf v r)) (hi (rowOf v r)) := by
  pointwise [k0_pay5, pay3_read, pay4_read]
  rw [zero_sub]
  rfl

/-- The code of channel `k` of row `r`. -/
theorem pay6_read (v : FVec Ideal S256x128 .bf16) (r : Fin 256) (k : Fin 128) :
    k0_pay6 (F := Ideal) v (ix2 r k) = code (lo (rowOf v r)) (hi (rowOf v r)) (v (ix2 r k)) := by
  pointwise [k0_pay6, k0_pay2, pay4_read, pay5_read]
  rfl

/-- The dequantised channel `k` of row `r`. -/
theorem deq_read (v : FVec Ideal S256x128 .bf16) (r : Fin 256) (k : Fin 128) :
    (deq v : FVec Ideal S256x128 .bf16) (ix2 r k)
      = (code (lo (rowOf v r)) (hi (rowOf v r)) (v (ix2 r k)) - zpt (lo (rowOf v r)) (hi (rowOf v r)))
        * scl (lo (rowOf v r)) (hi (rowOf v r)) := by
  pointwise [deq, k0_pay9, k0_pay7, pay4_read, pay5_read, pay6_read]

/-- The packing matrix. -/
theorem pay18_read (k : Fin 128) (i : Fin 64) :
    k0_pay18 (F := Ideal) (ix2 k i) = if k.val = 2 * i.val then 1 else if k.val = 2 * i.val + 1 then Ideal.ofBits .f32 0x41800000#32 else 0 := by
  have hk := k.isLt
  have hi := i.isLt
  pointwise [k0_pay18]
  have e2 : IntOp.muli 2#32 (BitVec.ofNat 32 i.val) = BitVec.ofNat 32 (2 * i.val) := (BitVec.ofNat_mul 2 i.val).symm
  have e3 : IntOp.addi (BitVec.ofNat 32 (2 * i.val)) 1#32 = BitVec.ofNat 32 (2 * i.val + 1) := (BitVec.ofNat_add (2 * i.val) 1).symm
  rw [e2, e3, WordCmp.cmpi_eq_ofNat (by omega) (by omega), WordCmp.cmpi_eq_ofNat (by omega) (by omega), WordCmp.select_ofBool, WordCmp.select_ofBool]
  simp only [decide_eq_true_eq]

/-- The packed word of the channel pair `i` of row `r`: the even channel's code, plus sixteen times the odd channel's. -/
theorem pk_read (v : FVec Ideal S256x128 .bf16) (r : Fin 256) (i : Fin 64) :
    pk (F := Ideal) v (ix2 r i)
      = packed (lo (rowOf v r)) (hi (rowOf v r)) (v (ix2 r ⟨2 * i.val, by omega⟩)) (v (ix2 r ⟨2 * i.val + 1, by omega⟩)) := by
  pointwise [pk, k0_pay8, pay6_read]
  simp only [pay18_read, ofBits_16]
  exact (congrArg (Ideal.fptosi 32) (sum_pair (fun k => code (lo (rowOf v r)) (hi (rowOf v r)) (v (ix2 r k))) i)).trans
    (packed_eq (lo_nonpos _) (hi_nonneg _) _ _)

end Cert.KernelIdeal.Hand

end
-- ==== Proof.KiSum.lean ====
/- The output block of the idealized kernel, read at one element over the extended reals: one sum over all 7168 channels. -/
module

public import proofs.«01_k».proof.Proof.KiChain
public import proofs.«01_k».proof.Proof.Quant

@[expose] public section

set_option maxRecDepth 16384

noncomputable section

open Idealize.ShloMosaic Idealize.SL.Sem

namespace Cert.KernelIdeal.Hand

open Cert.KernelIdeal Cert.KernelIdeal.Gen Cert.Quant

/-- An in-range shift left of a vector lane is the word's. -/
theorem shli_eq (x : BitVec 32) {n : ℕ} (h : n < 32) : IntOp.shli .vector x (BitVec.ofNat 32 n) = x <<< n := by
  have e : (BitVec.ofNat 32 n).toNat = n := by rw [BitVec.toNat_ofNat]; omega
  rw [IntOp.shli, if_pos (by rw [e]; exact h), BitVec.shiftLeft_eq', e]

/-- An in-range arithmetic shift right of a vector lane is the word's. -/
theorem shrsi_eq (x : BitVec 32) {n : ℕ} (h : n < 32) : IntOp.shrsi .vector x (BitVec.ofNat 32 n) = x.sshiftRight n := by
  have e : (BitVec.ofNat 32 n).toNat = n := by rw [BitVec.toNat_ofNat]; omega
  rw [IntOp.shrsi, if_pos (by rw [e]; exact h), BitVec.sshiftRight', e]

/-- Row `t` of the dequantised K tile: nibble `t % 2` of packed row `t / 2`, times scale row `t / 128`. -/
theorem wt_read (p : IVec S128x512 8) (w : FVec Ideal S2x512 .f32) (t : Fin 256) (c : Fin 512) :
    (wt (F := Ideal) p w : FVec Ideal S256x512 .bf16) (ix2 t c)
      = (((nib (p (ix2 ⟨t.val / 2, by omega⟩ c)) (t.val % 2)).toInt : ℝ) : EReal) * w (ix2 ⟨t.val / 128, by omega⟩ c) := by
  have ht := t.isLt
  have k0 : ∀ b : BitVec 8, FloatOps.sitofp (F := Ideal) .bf16
      (BitVec.setWidth 4 (IntOp.shrsi .vector (IntOp.shli .vector (BitVec.setWidth 32 b) 28#32) 28#32)) = (((nib b 0).toInt : ℝ) : EReal) := by
    intro b
    rw [shli_eq _ (by omega : 28 < 32), shrsi_eq _ (by omega : 28 < 32), ← nib_cut]
    rfl
  have k1 : ∀ b : BitVec 8, FloatOps.sitofp (F := Ideal) .bf16
      (BitVec.setWidth 4 (IntOp.shrsi .vector (IntOp.shli .vector (BitVec.setWidth 32 b) 24#32) 28#32)) = (((nib b 1).toInt : ℝ) : EReal) := by
    intro b
    rw [shli_eq _ (by omega : 24 < 32), shrsi_eq _ (by omega : 28 < 32), ← nib_cut]
    rfl
  have e' : ¬ t.val < 128 → 128 + (t.val - 128) = t.val := by omega
  pointwise [wt]
  split
  · have e : t.val / 128 = 0 := by omega
    obtain e2 | e2 : t.val % 2 = 0 ∨ t.val % 2 = 1 := by omega
    · simp only [e, e2]
      exact congrArg (fun z : EReal => z * w (ix2 0 c)) (k0 _)
    · simp only [e, e2]
      exact congrArg (fun z : EReal => z * w (ix2 0 c)) (k1 _)
  · rename_i h
    have e : t.val / 128 = 1 := by omega
    obtain e2 | e2 : t.val % 2 = 0 ∨ t.val % 2 = 1 := by omega
    · simp only [e' h, e, e2]
      exact congrArg (fun z : EReal => z * w (ix2 1 c)) (k0 _)
    · simp only [e' h, e, e2]
      exact congrArg (fun z : EReal => z * w (ix2 1 c)) (k1 _)

/-- One K tile of the product at one element. -/
theorem stepK_read (a : FVec Ideal S256x512 .f32) (A : FVec Ideal S256x256 .bf16) (p : IVec S128x512 8) (w : FVec Ideal S2x512 .f32)
    (r : Fin 256) (c : Fin 512) :
    stepK (F := Ideal) a p w A (ix2 r c) = a (ix2 r c) + ∑ t : Fin 256, A (ix2 r t)
      * ((((nib (p (ix2 ⟨t.val / 2, by omega⟩ c)) (t.val % 2)).toInt : ℝ) : EReal) * w (ix2 ⟨t.val / 128, by omega⟩ c)) := by
  have e : ∀ B : FVec Ideal S256x512 .bf16,
      addf a (matmul dot_S256x256_S256x512_S256x512_1_0_0_1_n_n none A B (constant (F := Ideal) S256x512 .f32 0x00000000#32)) (ix2 r c)
        = a (ix2 r c) + ∑ t : Fin 256, A (ix2 r t) * B (ix2 t c) := by
    intro B
    pointwise
  rw [stepK, e]
  simp only [wt_read]

/-- The term of channel `d` in the product. -/
def term (A : FVec Ideal S256x7168 .bf16) (x1 : IVec S3584x512 8) (x2 : FVec Ideal S56x512 .f32) (r : Fin 256) (c : Fin 512)
    (d : Fin 7168) : EReal :=
  A (ix2 r d) * ((((nib (x1 (ix2 ⟨d.val / 2, by omega⟩ c)) (d.val % 2)).toInt : ℝ) : EReal) * x2 (ix2 ⟨d.val / 128, by omega⟩ c))

/-- Step `k` adds the terms of channels `256 k …`. -/
theorem stp_read (x1 : IVec S3584x512 8) (x2 : FVec Ideal S56x512 .f32) (A : FVec Ideal S256x7168 .bf16) (k : ℕ) (hk : k < 28)
    (a : FVec Ideal S256x512 .f32) (r : Fin 256) (c : Fin 512) :
    stp (F := Ideal) x1 x2 A k a (ix2 r c) = a (ix2 r c) + ∑ t : Fin 256, term A x1 x2 r c ⟨k * 256 + t.val, by omega⟩ := by
  rw [stp, stepK_read]
  congr 1
  refine Finset.sum_congr rfl fun t _ => ?_
  have ht := t.isLt
  have e1 : acols (F := Ideal) A (256 * k) (ix2 r t) = A (ix2 r ⟨k * 256 + t.val, by omega⟩) :=
    congrArg A (by ext i; fin_cases i; rfl; show (256 * k + t.val) % 7168 = k * 256 + t.val; omega)
  have e2 : prows (F := Ideal) x1 (128 * k) (ix2 ⟨t.val / 2, by omega⟩ c) = x1 (ix2 ⟨(k * 256 + t.val) / 2, by omega⟩ c) :=
    congrArg x1 (by ext i; fin_cases i; show (128 * k + t.val / 2) % 3584 = (k * 256 + t.val) / 2; omega; rfl)
  have e3 : wrows (F := Ideal) x2 (2 * k) (ix2 ⟨t.val / 128, by omega⟩ c) = x2 (ix2 ⟨(k * 256 + t.val) / 128, by omega⟩ c) :=
    congrArg x2 (by ext i; fin_cases i; show (2 * k + t.val / 128) % 56 = (k * 256 + t.val) / 128; omega; rfl)
  have e4 : (k * 256 + t.val) % 2 = t.val % 2 := by omega
  rw [e1, e2, e3, term, e4]

/-- The sum after `n` tiles. -/
theorem accN_read (x1 : IVec S3584x512 8) (x2 : FVec Ideal S56x512 .f32) (A : FVec Ideal S256x7168 .bf16) (r : Fin 256) (c : Fin 512)
    (n : ℕ) (hn : n ≤ 28) :
    accN (F := Ideal) x1 x2 A n (ix2 r c) = ∑ k : Fin n, ∑ t : Fin 256, term A x1 x2 r c ⟨k.val * 256 + t.val, by omega⟩ := by
  induction n with
  | zero =>
    rw [Fin.sum_univ_zero]
    show Ideal.ofBits .f32 0x00000000#32 = 0
    simp [Ideal.ofBits, Ideal.ieee, -EReal.coe_mul]
  | succ n ih =>
    rw [accN, stp_read x1 x2 A n (by omega), ih (by omega)]
    exact (Fin.sum_univ_castSucc (fun k : Fin (n + 1) => ∑ t : Fin 256, term A x1 x2 r c ⟨k.val * 256 + t.val, by omega⟩)).symm

/-- The output block at one element: the sum over all channels. -/
theorem Yb_read (x1 : IVec S3584x512 8) (x2 : FVec Ideal S56x512 .f32) (A : FVec Ideal S256x7168 .bf16) (r : Fin 256) (c : Fin 512) :
    (Yb (F := Ideal) x1 x2 A : FVec Ideal S256x512 .bf16) (ix2 r c) = ∑ d : Fin 7168, term A x1 x2 r c d := by
  have h : (Yb (F := Ideal) x1 x2 A : FVec Ideal S256x512 .bf16) (ix2 r c) = accN (F := Ideal) x1 x2 A 28 (ix2 r c) := rfl
  rw [h, accN_read x1 x2 A r c 28 le_rfl]
  exact (Fin.sum_univ_tiles 28 256 rfl _).symm

end Cert.KernelIdeal.Hand

end
-- ==== Proof.RefTerm.lean ====
/- The reference program's values, named stage by stage. -/
module

public import proofs.«01_k».proof.Defs
public import proofs.«01_k».proof.Proof.Gen.ReferenceIdeal

@[expose] public section

set_option maxRecDepth 16384

noncomputable section

open Idealize.ShloMosaic Idealize.SL.Sem

namespace Cert.ReferenceIdeal.Hand

open Cert.ReferenceIdeal Cert.ReferenceIdeal.Gen

/-- The activation, 56 groups of 128 channels per row. -/
def rX (x : FVec Ideal S1x256x7168 .bf16) : FVec Ideal S1x256x56x128 .f32 :=
  shapeCast S1x256x56x128 (extf .f32 x bitsLt_bf16_f32) shapeCasts_S1x256x7168_S1x256x56x128

/-- The lower end of each group's range. -/
def rLo (x : FVec Ideal S1x256x7168 .bf16) : FVec Ideal S1x256x56 .f32 :=
  minimumf (broadcastInDim S1x256x56 ![] bcast_S_S1x256x56 (constant (F := Ideal) S_ .f32 0x00000000#32))
    (Host.reduce FloatOps.minimumf (rX x) (constant (F := Ideal) S_ .f32 0x7F800000#32) reducesTo_S1x256x56x128_S1x256x56_d3 h_S_)

/-- The upper end of each group's range. -/
def rHi (x : FVec Ideal S1x256x7168 .bf16) : FVec Ideal S1x256x56 .f32 :=
  maximumf (broadcastInDim S1x256x56 ![] bcast_S_S1x256x56 (constant (F := Ideal) S_ .f32 0x00000000#32))
    (Host.reduce FloatOps.maximumf (rX x) (constant (F := Ideal) S_ .f32 0xFF800000#32) reducesTo_S1x256x56x128_S1x256x56_d3 h_S_)

/-- The scales. -/
def rS (x : FVec Ideal S1x256x7168 .bf16) : FVec Ideal S1x256x56 .f32 :=
  select (cmpf .oeq (rHi x) (rLo x)) (broadcastInDim S1x256x56 ![] bcast_S_S1x256x56 (constant (F := Ideal) S_ .f32 0x3F800000#32))
    (Host.divf (subf (rHi x) (rLo x)) (broadcastInDim S1x256x56 ![] bcast_S_S1x256x56 (constant (F := Ideal) S_ .f32 0x41700000#32)))

/-- The zero points. -/
def rZf (x : FVec Ideal S1x256x7168 .bf16) : FVec Ideal S1x256x56 .f32 := Host.roundeven (Host.divf (Host.negf (rLo x)) (rS x))

/-- A per-group value at every channel of its group. -/
def rB {e : EltTy} (v : Vec Ideal S1x256x56 e) : Vec Ideal S1x256x56x128 e :=
  broadcastInDim S1x256x56x128 ![0, 1, 2, 3] bcast_S1x256x56x1_S1x256x56x128_0_1_2_3
    (broadcastInDim S1x256x56x1 ![0, 1, 2] bcast_S1x256x56_S1x256x56x1_0_1_2 v)

/-- The codes, as floats. -/
def rCf (x : FVec Ideal S1x256x7168 .bf16) : FVec Ideal S1x256x56x128 .f32 :=
  minimumf (broadcastInDim S1x256x56x128 ![] bcast_S_S1x256x56x128 (constant (F := Ideal) S_ .f32 0x41700000#32))
    (maximumf (broadcastInDim S1x256x56x128 ![] bcast_S_S1x256x56x128 (constant (F := Ideal) S_ .f32 0x00000000#32))
      (addf (Host.roundeven (Host.divf (rX x) (rB (e := .f32) (rS x)))) (rB (e := .f32) (rZf x))))

/-- The codes, as bytes. -/
def rC (x : FVec Ideal S1x256x7168 .bf16) : IVec S1x256x56x128 8 := trunci 8 (fptosi 32 (rCf x)) natLt_8_32

/-- The zero points, as bytes. -/
def rZ (x : FVec Ideal S1x256x7168 .bf16) : IVec S1x256x56 8 := trunci 8 (fptosi 32 (rZf x)) natLt_8_32

/-- The codes in pairs. -/
def rC2 (x : FVec Ideal S1x256x7168 .bf16) : IVec S1x256x3584x2 8 := shapeCast S1x256x3584x2 (rC x) shapeCasts_S1x256x56x128_S1x256x3584x2

/-- The packed codes: the even channel's in the low nibble, the odd channel's in the high one. -/
def rP (x : FVec Ideal S1x256x7168 .bf16) : IVec S1x256x3584 8 :=
  trunci 8 (ori (extui 32 (shapeCast S1x256x3584 (extractStridedSlice S1x256x3584x1 ![0, 0, 0, 0] (rC2 x) slices_S1x256x3584x2_S1x256x3584x1_0_0_0_0) shapeCasts_S1x256x3584x1_S1x256x3584) natLt_8_32)
    (Host.shli (extui 32 (shapeCast S1x256x3584 (extractStridedSlice S1x256x3584x1 ![0, 0, 0, 1] (rC2 x) slices_S1x256x3584x2_S1x256x3584x1_0_0_0_1) shapeCasts_S1x256x3584x1_S1x256x3584) natLt_8_32)
      (broadcastInDim S1x256x3584 ![] bcast_S_S1x256x3584 (constantI S_ 32 4#32)))) natLt_8_32

/-- The dequantised activation: (code - zero point) * scale. -/
def rA (x : FVec Ideal S1x256x7168 .bf16) : FVec Ideal S1x256x56x128 .bf16 :=
  mulf (sitofp .bf16 (subi (extui 32 (rC x) natLt_8_32) (rB (e := .i32) (extui 32 (rZ x) natLt_8_32))))
    (rB (e := .bf16) (truncf .bf16 (rS x) bitsLt_bf16_f32))

/-- The dequantised activation, even channels before odd ones. -/
def rAt (x : FVec Ideal S1x256x7168 .bf16) : FVec Ideal S1x256x2x56x64 .bf16 :=
  transpose S1x256x2x56x64 [0, 1, 4, 2, 3] (shapeCast S1x256x56x64x2 (rA x) shapeCasts_S1x256x56x128_S1x256x56x64x2) transposes_S1x256x56x64x2_S1x256x2x56x64_0_1_4_2_3

/-- The weight codes: the two signed nibbles of every packed byte. -/
def rN (p : IVec S3584x18432 8) : IVec S2x56x64x18432 32 :=
  Host.shrsi (Host.shli
      (broadcastInDim S2x56x64x18432 ![0, 1, 2, 3] bcast_S1x56x64x18432_S2x56x64x18432_0_1_2_3 (shapeCast S1x56x64x18432 (extui 32 p natLt_8_32) shapeCasts_S3584x18432_S1x56x64x18432))
      (broadcastInDim S2x56x64x18432 ![0, 1, 2, 3] bcast_S2x1x1x1_S2x56x64x18432_0_1_2_3 (shapeCast S2x1x1x1 (fun i => lit0 (S2.rowMajor i) : IVec S2 32) shapeCasts_S2_S2x1x1x1)))
    (broadcastInDim S2x56x64x18432 ![] bcast_S_S2x56x64x18432 (constantI S_ 32 28#32))

/-- The dequantised weights: code * group scale. -/
def rW (p : IVec S3584x18432 8) (w : FVec Ideal S56x18432 .f32) : FVec Ideal S2x56x64x18432 .bf16 :=
  mulf (sitofp .bf16 (rN p))
    (broadcastInDim S2x56x64x18432 ![0, 1, 2, 3] bcast_S1x56x1x18432_S2x56x64x18432_0_1_2_3
      (broadcastInDim S1x56x1x18432 ![1, 3] bcast_S56x18432_S1x56x1x18432_1_3 (truncf .bf16 w bitsLt_bf16_f32)))

/-- The product. -/
def rY (x : FVec Ideal S1x256x7168 .bf16) (p : IVec S3584x18432 8) (w : FVec Ideal S56x18432 .f32) : FVec Ideal S1x256x18432 .bf16 :=
  truncf .bf16 (Host.dotGeneral dot_S1x256x2x56x64_S2x56x64x18432_S1x256x18432_324_102_01_3_n_n none (rAt x) (rW p w)) bitsLt_bf16_f32

end Cert.ReferenceIdeal.Hand

end
-- ==== Proof.RefRead.lean ====
/- The reference's quantiser, read at one element. -/
module

public import proofs.«01_k».proof.Proof.RefTerm
public import proofs.«01_k».proof.Proof.Quant
public import Idealize.ShloMosaic.Lib.Pointwise

@[expose] public section

set_option maxRecDepth 16384

noncomputable section

open Idealize.ShloMosaic Idealize.SL.Sem

namespace Cert.ReferenceIdeal.Hand

open Cert.ReferenceIdeal Cert.ReferenceIdeal.Gen Cert.Quant

/-- Group `g` of row `r`. -/
abbrev grpOf (x : FVec Ideal S1x256x7168 .bf16) (r : Fin 256) (g : Fin 56) : Fin 128 → EReal :=
  fun k => x (ix3 0 r ⟨g.val * 128 + k.val, by omega⟩)

/-- The grouped activations at row `r`, group `g`, lane `k`. -/
theorem rX_read (x : FVec Ideal S1x256x7168 .bf16) (r : Fin 256) (g : Fin 56) (k : Fin 128) :
    rX x (ix4 0 r g k) = grpOf x r g k := by
  pointwise [rX]

/-- A scalar constant at every group. -/
theorem splat3 (b : BitVec 32) (y : S1x256x56.Idx) :
    broadcastInDim S1x256x56 ![] bcast_S_S1x256x56 (constant (F := Ideal) S_ .f32 b) y = Ideal.ofBits .f32 b := rfl

/-- A scalar constant at every channel. -/
theorem splat4 (b : BitVec 32) (y : S1x256x56x128.Idx) :
    broadcastInDim S1x256x56x128 ![] bcast_S_S1x256x56x128 (constant (F := Ideal) S_ .f32 b) y = Ideal.ofBits .f32 b := rfl

/-- The least of a group's channels. -/
theorem red_min (X : FVec Ideal S1x256x56x128 .f32) (b : BitVec 32) (r : Fin 256) (g : Fin 56) :
    Host.reduce FloatOps.minimumf X (constant (F := Ideal) S_ .f32 b) reducesTo_S1x256x56x128_S1x256x56_d3 h_S_ (ix3 0 r g)
      = Finset.univ.fold min (Ideal.ofBits .f32 b) (fun k => X (ix4 0 r g k)) := by
  pointwise

/-- The greatest of a group's channels. -/
theorem red_max (X : FVec Ideal S1x256x56x128 .f32) (b : BitVec 32) (r : Fin 256) (g : Fin 56) :
    Host.reduce FloatOps.maximumf X (constant (F := Ideal) S_ .f32 b) reducesTo_S1x256x56x128_S1x256x56_d3 h_S_ (ix3 0 r g)
      = Finset.univ.fold max (Ideal.ofBits .f32 b) (fun k => X (ix4 0 r g k)) := by
  pointwise

/-- The constant 0 is zero. -/
theorem ofBits_0 : Ideal.ofBits .f32 0x00000000#32 = 0 := by
  simp [Ideal.ofBits, Ideal.ieee, -EReal.coe_mul]

/-- The constant 1 is one. -/
theorem ofBits_1 : Ideal.ofBits .f32 0x3F800000#32 = 1 := by
  simp [Ideal.ofBits, Ideal.ieee, -EReal.coe_mul]; norm_num

/-- An elementwise minimum, at an element. -/
theorem min_at {s : Shape} (A B : FVec Ideal s .f32) (y : s.Idx) : minimumf A B y = min (A y) (B y) := rfl
/-- An elementwise maximum, at an element. -/
theorem max_at {s : Shape} (A B : FVec Ideal s .f32) (y : s.Idx) : maximumf A B y = max (A y) (B y) := rfl

/-- The lower end of the range of group `g` of row `r`. -/
theorem rLo_read (x : FVec Ideal S1x256x7168 .bf16) (r : Fin 256) (g : Fin 56) :
    rLo x (ix3 0 r g) = lo (grpOf x r g) := by
  rw [rLo, min_at, splat3, red_min, ofBits_0, lo]
  simp only [rX_read]

/-- The upper end of the range of group `g` of row `r`. -/
theorem rHi_read (x : FVec Ideal S1x256x7168 .bf16) (r : Fin 256) (g : Fin 56) :
    rHi x (ix3 0 r g) = hi (grpOf x r g) := by
  rw [rHi, max_at, splat3, red_max, ofBits_0, hi]
  simp only [rX_read]

/-- The scale as one vector lane computes it. -/
theorem scl_at (A B C D : FVec Ideal S1x256x56 .f32) (y : S1x256x56.Idx) :
    select (cmpf .oeq A B) C (Host.divf (subf A B) D) y = if A y = B y then C y else Ideal.div (A y - B y) (D y) := by
  pointwise

/-- The scale of group `g` of row `r`. -/
theorem rS_read (x : FVec Ideal S1x256x7168 .bf16) (r : Fin 256) (g : Fin 56) :
    rS x (ix3 0 r g) = scl (lo (grpOf x r g)) (hi (grpOf x r g)) := by
  rw [rS, scl_at, splat3, splat3, rLo_read, rHi_read, ofBits_1, scl]

/-- The zero point as one vector lane computes it. -/
theorem zpt_at (A B : FVec Ideal S1x256x56 .f32) (y : S1x256x56.Idx) :
    Host.roundeven (Host.divf (Host.negf A) B) y = Ideal.liftRound Ideal.roundHalfEven (Ideal.div (-(A y)) (B y)) := rfl

/-- The zero point of group `g` of row `r`, as a number. -/
theorem rZf_read (x : FVec Ideal S1x256x7168 .bf16) (r : Fin 256) (g : Fin 56) :
    rZf x (ix3 0 r g) = zpt (lo (grpOf x r g)) (hi (grpOf x r g)) := by
  rw [rZf, zpt_at, rLo_read, rS_read, zpt]

/-- A per-group value at one channel of its group. -/
theorem rB_read {e : EltTy} (v : Vec Ideal S1x256x56 e) (r : Fin 256) (g : Fin 56) (k : Fin 128) :
    rB v (ix4 0 r g k) = v (ix3 0 r g) := by
  pointwise [rB]

/-- The code as one vector lane computes it. -/
theorem code_at (A B C D E : FVec Ideal S1x256x56x128 .f32) (y : S1x256x56x128.Idx) :
    minimumf D (maximumf E (addf (Host.roundeven (Host.divf A B)) C)) y
      = min (D y) (max (E y) (Ideal.liftRound Ideal.roundHalfEven (Ideal.div (A y) (B y)) + C y)) := rfl

/-- The code of lane `k` of group `g` of row `r`, as a number. -/
theorem rCf_read (x : FVec Ideal S1x256x7168 .bf16) (r : Fin 256) (g : Fin 56) (k : Fin 128) :
    rCf x (ix4 0 r g k) = code (lo (grpOf x r g)) (hi (grpOf x r g)) (grpOf x r g k) := by
  rw [rCf, code_at, splat4, splat4, rX_read, rB_read, rB_read, rS_read, rZf_read, ofBits_0, code]

/-- A byte as one vector lane computes it. -/
theorem byte_at {s : Shape} (A : FVec Ideal s .f32) (y : s.Idx) : (trunci 8 (fptosi 32 A) natLt_8_32 : IVec s 8) y = byte (A y) := rfl

/-- The code of lane `k` of group `g` of row `r`, as an integer. -/
theorem rC_read (x : FVec Ideal S1x256x7168 .bf16) (r : Fin 256) (g : Fin 56) (k : Fin 128) :
    rC x (ix4 0 r g k) = byte (code (lo (grpOf x r g)) (hi (grpOf x r g)) (grpOf x r g k)) := by
  rw [rC, byte_at, rCf_read]

/-- The zero point of group `g` of row `r`, as a byte. -/
theorem rZ_read (x : FVec Ideal S1x256x7168 .bf16) (r : Fin 256) (g : Fin 56) :
    rZ x (ix3 0 r g) = byte (zpt (lo (grpOf x r g)) (hi (grpOf x r g))) := by
  rw [rZ, byte_at, rZf_read]

/-- The dequantised channel as one vector lane computes it. -/
theorem deq_at (A B : IVec S1x256x56x128 32) (C : FVec Ideal S1x256x56x128 .bf16) (y : S1x256x56x128.Idx) :
    mulf (sitofp .bf16 (subi A B)) C y = ((((A y - B y : BitVec 32).toInt : ℝ) : EReal)) * C y := rfl

/-- A widened byte at one element. -/
theorem wide_at {s : Shape} (A : IVec s 8) (y : s.Idx) : extui 32 A natLt_8_32 y = (A y).setWidth 32 := rfl

/-- A cast changes no extended real. -/
theorem cast_at {s : Shape} (A : FVec Ideal s .f32) (y : s.Idx) : (truncf .bf16 A bitsLt_bf16_f32 : FVec Ideal s .bf16) y = A y := rfl

/-- The dequantised activation of lane `k` of group `g` of row `r`. -/
theorem rA_read (x : FVec Ideal S1x256x7168 .bf16) (r : Fin 256) (g : Fin 56) (k : Fin 128) :
    rA x (ix4 0 r g k) = (code (lo (grpOf x r g)) (hi (grpOf x r g)) (grpOf x r g k) - zpt (lo (grpOf x r g)) (hi (grpOf x r g)))
      * scl (lo (grpOf x r g)) (hi (grpOf x r g)) := by
  rw [rA, deq_at, rB_read, rB_read]
  rw [wide_at, wide_at, cast_at, rC_read, rZ_read, rS_read, sub_bytes (lo_nonpos _) (hi_nonneg _)]

end Cert.ReferenceIdeal.Hand

end
-- ==== Proof.RefSum.lean ====
/- The reference's packed codes and product, read at one element. -/
module

public import proofs.«01_k».proof.Proof.RefRead

@[expose] public section

set_option maxRecDepth 16384

noncomputable section

open Idealize.ShloMosaic Idealize.SL.Sem

namespace Cert.ReferenceIdeal.Hand

open Cert.ReferenceIdeal Cert.ReferenceIdeal.Gen Cert.Quant

/-- The even channel of a pair. -/
theorem even_read (C : IVec S1x256x56x128 8) (r : Fin 256) (i : Fin 3584) :
    shapeCast S1x256x3584 (extractStridedSlice S1x256x3584x1 ![0, 0, 0, 0] (shapeCast S1x256x3584x2 C shapeCasts_S1x256x56x128_S1x256x3584x2)
      slices_S1x256x3584x2_S1x256x3584x1_0_0_0_0) shapeCasts_S1x256x3584x1_S1x256x3584 (ix3 0 r i)
      = C (ix4 0 r ⟨i.val / 64, by omega⟩ ⟨2 * (i.val % 64), by omega⟩) := by
  pointwise
  simp only [mul_comm]

/-- The odd channel of a pair. -/
theorem odd_read (C : IVec S1x256x56x128 8) (r : Fin 256) (i : Fin 3584) :
    shapeCast S1x256x3584 (extractStridedSlice S1x256x3584x1 ![0, 0, 0, 1] (shapeCast S1x256x3584x2 C shapeCasts_S1x256x56x128_S1x256x3584x2)
      slices_S1x256x3584x2_S1x256x3584x1_0_0_0_1) shapeCasts_S1x256x3584x1_S1x256x3584 (ix3 0 r i)
      = C (ix4 0 r ⟨i.val / 64, by omega⟩ ⟨2 * (i.val % 64) + 1, by omega⟩) := by
  pointwise
  simp only [mul_comm]

/-- A packed byte, widened. -/
theorem wide_p_read (p : IVec S3584x18432 8) (g : Fin 56) (k : Fin 64) (c : Fin 18432) :
    shapeCast S1x56x64x18432 (extui 32 p natLt_8_32) shapeCasts_S3584x18432_S1x56x64x18432 (ix4 0 g k c)
      = (p (ix2 ⟨g.val * 64 + k.val, by omega⟩ c)).setWidth 32 := by
  pointwise

/-- A scale at every channel of its group. -/
theorem wb_read (w : FVec Ideal S56x18432 .bf16) (j : Fin 2) (g : Fin 56) (k : Fin 64) (c : Fin 18432) :
    (broadcastInDim S2x56x64x18432 ![0, 1, 2, 3] bcast_S1x56x1x18432_S2x56x64x18432_0_1_2_3
      (broadcastInDim S1x56x1x18432 ![1, 3] bcast_S56x18432_S1x56x1x18432_1_3 w)) (ix4 j g k c) = w (ix2 g c) := by
  pointwise

/-- The reordered activation. -/
theorem rAt_read (A : FVec Ideal S1x256x56x128 .bf16) (r : Fin 256) (j : Fin 2) (g : Fin 56) (k : Fin 64) :
    transpose S1x256x2x56x64 [0, 1, 4, 2, 3] (shapeCast S1x256x56x64x2 A shapeCasts_S1x256x56x128_S1x256x56x64x2) transposes_S1x256x56x64x2_S1x256x2x56x64_0_1_4_2_3
      (ix5 0 r j g k) = A (ix4 0 r g ⟨2 * k.val + j.val, by omega⟩) := by
  pointwise
  simp only [mul_comm]

/-- The index of the contraction from its three coordinates: group, half, position. -/
def cIdx (g : Fin 56) (j : Fin 2) (k : Fin 64) : dot_S1x256x2x56x64_S2x56x64x18432_S1x256x18432_324_102_01_3_n_n.contr.Idx :=
  fun p => match p with
    | ⟨0, _⟩ => g
    | ⟨1, _⟩ => j
    | ⟨2, _⟩ => k

/-- The contraction's indices are the triples of coordinates. -/
def cEquiv : Fin 56 × Fin 2 × Fin 64 ≃ dot_S1x256x2x56x64_S2x56x64x18432_S1x256x18432_324_102_01_3_n_n.contr.Idx where
  toFun q := cIdx q.1 q.2.1 q.2.2
  invFun kk := (kk ⟨0, by decide⟩, kk ⟨1, by decide⟩, kk ⟨2, by decide⟩)
  left_inv _ := rfl
  right_inv kk := by
    funext p
    match p with
    | ⟨0, _⟩ => rfl
    | ⟨1, _⟩ => rfl
    | ⟨2, _⟩ => rfl

/-- The product at one element, as a triple sum. -/
theorem dot_read (A : FVec Ideal S1x256x2x56x64 .bf16) (W : FVec Ideal S2x56x64x18432 .bf16) (r : Fin 256) (c : Fin 18432) :
    Host.dotGeneral dot_S1x256x2x56x64_S2x56x64x18432_S1x256x18432_324_102_01_3_n_n none A W (ix3 0 r c)
      = ∑ g : Fin 56, ∑ j : Fin 2, ∑ k : Fin 64, A (ix5 0 r j g k) * W (ix4 j g k c) := by
  unfold Host.dotGeneral
  rw [Ideal.dotGeneral_apply, ← Equiv.sum_comp cEquiv, Fintype.sum_prod_type]
  refine Finset.sum_congr rfl fun g _ => ?_
  rw [Fintype.sum_prod_type]
  refine Finset.sum_congr rfl fun j _ => Finset.sum_congr rfl fun k _ => ?_
  have el : dot_S1x256x2x56x64_S2x56x64x18432_S1x256x18432_324_102_01_3_n_n.lhsIdx (ix3 0 r c) (cEquiv (g, j, k)) = ix5 0 r j g k := by
    funext a; apply Fin.ext
    match a with
    | ⟨0, _⟩ => rfl
    | ⟨1, _⟩ => rfl
    | ⟨2, _⟩ => rfl
    | ⟨3, _⟩ => rfl
    | ⟨4, _⟩ => rfl
  have er : dot_S1x256x2x56x64_S2x56x64x18432_S1x256x18432_324_102_01_3_n_n.rhsIdx (ix3 0 r c) (cEquiv (g, j, k)) = ix4 j g k c := by
    funext a; apply Fin.ext
    match a with
    | ⟨0, _⟩ => rfl
    | ⟨1, _⟩ => rfl
    | ⟨2, _⟩ => rfl
    | ⟨3, _⟩ => rfl
  rw [el, er]

/-- An in-range shift of a 32-bit word is the word's. -/
theorem shli_eq (x : BitVec 32) {n : ℕ} (h : n < 32) : IntOp.shli .host x (BitVec.ofNat 32 n) = x <<< n := by
  have e : (BitVec.ofNat 32 n).toNat = n := by rw [BitVec.toNat_ofNat]; omega
  rw [IntOp.shli, if_pos (by rw [e]; exact h), BitVec.shiftLeft_eq', e]

/-- An in-range arithmetic shift right of a 32-bit word is the word's. -/
theorem shrsi_eq (x : BitVec 32) {n : ℕ} (h : n < 32) : IntOp.shrsi .host x (BitVec.ofNat 32 n) = x.sshiftRight n := by
  have e : (BitVec.ofNat 32 n).toNat = n := by rw [BitVec.toNat_ofNat]; omega
  rw [IntOp.shrsi, if_pos (by rw [e]; exact h), BitVec.sshiftRight', e]

/-- Two codes packed, as one lane computes it. -/
theorem pack_at (A B : IVec S1x256x3584 8) (y : S1x256x3584.Idx) :
    (trunci 8 (ori (extui 32 A natLt_8_32) (Host.shli (extui 32 B natLt_8_32)
      (broadcastInDim S1x256x3584 ![] bcast_S_S1x256x3584 (constantI S_ 32 4#32)))) natLt_8_32 : IVec S1x256x3584 8) y
      = ((A y).setWidth 32 ||| IntOp.shli .host ((B y).setWidth 32) (BitVec.ofNat 32 4)).setWidth 8 := rfl

/-- The packed code at one element. -/
theorem rP_read (x : FVec Ideal S1x256x7168 .bf16) (r : Fin 256) (i : Fin 3584) :
    rP x (ix3 0 r i)
      = (packed (lo (grpOf x r ⟨i.val / 64, by omega⟩)) (hi (grpOf x r ⟨i.val / 64, by omega⟩))
          (grpOf x r ⟨i.val / 64, by omega⟩ ⟨2 * (i.val % 64), by omega⟩)
          (grpOf x r ⟨i.val / 64, by omega⟩ ⟨2 * (i.val % 64) + 1, by omega⟩)).setWidth 8 := by
  rw [rP, pack_at, shli_eq _ (by omega)]
  unfold rC2
  rw [even_read, odd_read, rC_read, rC_read, packed]

/-- The shift that brings a nibble to the top of the word. -/
theorem lit_read (j : Fin 2) (g : Fin 56) (k : Fin 64) (c : Fin 18432) :
    broadcastInDim S2x56x64x18432 ![0, 1, 2, 3] bcast_S2x1x1x1_S2x56x64x18432_0_1_2_3
      (shapeCast S2x1x1x1 (fun i => lit0 (S2.rowMajor i) : IVec S2 32) shapeCasts_S2_S2x1x1x1) (ix4 j g k c)
      = BitVec.ofNat 32 (if j.val = 0 then 28 else 24) := by
  pointwise
  fin_cases j <;> rfl

/-- A nibble as one lane computes it. -/
theorem nib_at (A B : IVec S2x56x64x18432 32) (y : S2x56x64x18432.Idx) :
    (Host.shrsi (Host.shli A B) (broadcastInDim S2x56x64x18432 ![] bcast_S_S2x56x64x18432 (constantI S_ 32 28#32)) : IVec S2x56x64x18432 32) y
      = IntOp.shrsi .host (IntOp.shli .host (A y) (B y)) (BitVec.ofNat 32 28) := rfl

/-- Both halves at every row. -/
theorem halves_read (P : IVec S1x56x64x18432 32) (j : Fin 2) (g : Fin 56) (k : Fin 64) (c : Fin 18432) :
    broadcastInDim S2x56x64x18432 ![0, 1, 2, 3] bcast_S1x56x64x18432_S2x56x64x18432_0_1_2_3 P (ix4 j g k c) = P (ix4 0 g k c) := by
  pointwise

/-- The weight code at one element. -/
theorem rN_read (p : IVec S3584x18432 8) (j : Fin 2) (g : Fin 56) (k : Fin 64) (c : Fin 18432) :
    rN p (ix4 j g k c) = nib (p (ix2 ⟨g.val * 64 + k.val, by omega⟩ c)) j.val := by
  rw [rN, nib_at, lit_read, halves_read, wide_p_read, shli_eq _ (by split <;> omega), shrsi_eq _ (by omega), nib]

/-- A dequantised weight as one lane computes it. -/
theorem w_at (A : IVec S2x56x64x18432 32) (B : FVec Ideal S2x56x64x18432 .bf16) (y : S2x56x64x18432.Idx) :
    mulf (sitofp .bf16 A) B y = (((A y).toInt : ℝ) : EReal) * B y := rfl

/-- A cast changes no extended real. -/
theorem cast_w (A : FVec Ideal S56x18432 .f32) (y : S56x18432.Idx) : (truncf .bf16 A bitsLt_bf16_f32 : FVec Ideal S56x18432 .bf16) y = A y := rfl

/-- The dequantised weight at one element. -/
theorem rW_read (p : IVec S3584x18432 8) (w : FVec Ideal S56x18432 .f32) (j : Fin 2) (g : Fin 56) (k : Fin 64) (c : Fin 18432) :
    rW p w (ix4 j g k c) = (((nib (p (ix2 ⟨g.val * 64 + k.val, by omega⟩ c)) j.val).toInt : ℝ) : EReal) * w (ix2 g c) := by
  rw [rW, w_at, rN_read, wb_read, cast_w]

/-- The term of channel `d` in the product. -/
def rTerm (x : FVec Ideal S1x256x7168 .bf16) (p : IVec S3584x18432 8) (w : FVec Ideal S56x18432 .f32) (r : Fin 256) (c : Fin 18432)
    (d : Fin 7168) : EReal :=
  rA x (ix4 0 r ⟨d.val / 128, by omega⟩ ⟨d.val % 128, by omega⟩)
    * ((((nib (p (ix2 ⟨d.val / 2, by omega⟩ c)) (d.val % 2)).toInt : ℝ) : EReal) * w (ix2 ⟨d.val / 128, by omega⟩ c))

/-- The product at one element: the sum over all channels. -/
theorem rY_read (x : FVec Ideal S1x256x7168 .bf16) (p : IVec S3584x18432 8) (w : FVec Ideal S56x18432 .f32) (r : Fin 256) (c : Fin 18432) :
    rY x p w (ix3 0 r c) = ∑ d : Fin 7168, rTerm x p w r c d := by
  have h : rY x p w (ix3 0 r c)
      = Host.dotGeneral dot_S1x256x2x56x64_S2x56x64x18432_S1x256x18432_324_102_01_3_n_n none (rAt x) (rW p w) (ix3 0 r c) := rfl
  rw [h, dot_read, Fin.sum_univ_tiles 56 128 rfl]
  refine Finset.sum_congr rfl fun g _ => ?_
  rw [Fin.sum_univ_tiles 64 2 rfl, Finset.sum_comm]
  refine Finset.sum_congr rfl fun k _ => Finset.sum_congr rfl fun j _ => ?_
  have hj := j.isLt
  have hk := k.isLt
  rw [rAt, rAt_read, rW_read, rTerm]
  have e1 : (g.val * 128 + (k.val * 2 + j.val)) / 128 = g.val := by omega
  have e2 : (g.val * 128 + (k.val * 2 + j.val)) % 128 = 2 * k.val + j.val := by omega
  have e3 : (g.val * 128 + (k.val * 2 + j.val)) / 2 = g.val * 64 + k.val := by omega
  have e4 : (g.val * 128 + (k.val * 2 + j.val)) % 2 = j.val := by omega
  simp only [e1, e2, e3, e4]

end Cert.ReferenceIdeal.Hand

end
-- ==== Proof.Match.lean ====
/- The idealized kernel's block values are the reference's values at the same elements. -/
module

public import proofs.«01_k».proof.Proof.KiRead
public import proofs.«01_k».proof.Proof.KiSum
public import proofs.«01_k».proof.Proof.RefSum

@[expose] public section

set_option maxRecDepth 16384

noncomputable section

open Idealize.ShloMosaic Idealize.SL.Sem

namespace Cert.Match

open Cert.KernelIdeal Cert.KernelIdeal.Gen Cert.KernelIdeal.Hand Cert.Quant
open Cert.ReferenceIdeal.Hand (rS rZ rP rA rY grpOf rS_read rZ_read rP_read rA_read rY_read rTerm)

variable (x : FVec Ideal S1x256x7168 .bf16) (X : FVec Ideal S256x7168 .bf16)

/-- Row `r` of a group of the kernel's activation is the reference's group. -/
theorem grp_at (hX : ∀ r d, X (ix2 r d) = x (ix3 0 r d)) (n : ℕ) (g : Fin 56) (hn : n = g.val) (r : Fin 256) (k : Fin 128) :
    (grp (F := Ideal) X n : FVec Ideal S256x128 .bf16) (ix2 r k) = grpOf x r g k := by
  have hk := k.isLt
  have hg := g.isLt
  refine (hX r ⟨(128 * n + k.val) % 7168, Nat.mod_lt _ (by decide)⟩).trans ?_
  have e : (⟨(128 * n + k.val) % 7168, Nat.mod_lt _ (by decide)⟩ : Fin 7168) = ⟨g.val * 128 + k.val, by omega⟩ := Fin.ext (by subst hn; show (128 * g.val + k.val) % 7168 = g.val * 128 + k.val; omega)
  rw [e]

/-- The whole row at once. -/
theorem grp_row (hX : ∀ r d, X (ix2 r d) = x (ix3 0 r d)) (n : ℕ) (g : Fin 56) (hn : n = g.val) (r : Fin 256) :
    rowOf (grp (F := Ideal) X n) r = grpOf x r g := funext fun k => grp_at x X hX n g hn r k

/-- The lane that carries group `g`'s value. -/
theorem lanes_at (f : FVec Ideal S256x128 .bf16 → FVec Ideal S256x1 .f32) (r : Fin 256) (g : Fin 56) :
    (lanes (F := Ideal) f X 56 : FVec Ideal S256x128 .f32) (ix2 r ⟨g.val, by omega⟩) = f (grp (F := Ideal) X g.val) (ix2 r 0) :=
  if_pos g.isLt

/-- The first 56 lanes. -/
theorem pay25_read (v : FVec Ideal S256x128 .f32) (r : Fin 256) (g : Fin 56) :
    k0_pay25 (F := Ideal) v (ix2 r g) = v (ix2 r ⟨g.val, by omega⟩) := by
  pointwise [k0_pay25]

/-- The first 56 lanes, as bytes. -/
theorem pay26_read (v : FVec Ideal S256x128 .f32) (r : Fin 256) (g : Fin 56) :
    k0_pay26 (F := Ideal) v (ix2 r g) = byte (v (ix2 r ⟨g.val, by omega⟩)) := by
  pointwise [k0_pay26]
  rfl

/-- The scales agree. -/
theorem scales (hX : ∀ r d, X (ix2 r d) = x (ix3 0 r d)) (r : Fin 256) (g : Fin 56) :
    (Sq (F := Ideal) X : FVec Ideal S256x56 .f32) (ix2 r g) = rS x (ix3 0 r g) := by
  rw [Sq, pay25_read, lanes_at, pay4_read, grp_row x X hX _ g rfl, rS_read]

/-- The zero points agree. -/
theorem zeros (hX : ∀ r d, X (ix2 r d) = x (ix3 0 r d)) (r : Fin 256) (g : Fin 56) :
    (Zq (F := Ideal) X : IVec S256x56 8) (ix2 r g) = rZ x (ix3 0 r g) := by
  rw [Zq, pay26_read, lanes_at, pay5_read, grp_row x X hX _ g rfl, rZ_read]

/-- The packed codes agree. -/
theorem codes (hX : ∀ r d, X (ix2 r d) = x (ix3 0 r d)) (r : Fin 256) (i : Fin 3584) :
    (Cq (F := Ideal) X : IVec S256x3584 8) (ix2 r i) = rP x (ix3 0 r i) := by
  have h : (Cq (F := Ideal) X : IVec S256x3584 8) (ix2 r i)
      = (pk (F := Ideal) (grp (F := Ideal) X (i.val / 64)) (ix2 r ⟨i.val % 64, by omega⟩)).setWidth 8 := rfl
  rw [h, pk_read, grp_row x X hX _ ⟨i.val / 64, by omega⟩ rfl, grp_at x X hX _ ⟨i.val / 64, by omega⟩ rfl,
    grp_at x X hX _ ⟨i.val / 64, by omega⟩ rfl, rP_read]

/-- The dequantised activations agree. -/
theorem acts (hX : ∀ r d, X (ix2 r d) = x (ix3 0 r d)) (r : Fin 256) (d : Fin 7168) :
    (Aq (F := Ideal) X : FVec Ideal S256x7168 .bf16) (ix2 r d)
      = rA x (ix4 0 r ⟨d.val / 128, by omega⟩ ⟨d.val % 128, by omega⟩) := by
  have h : (Aq (F := Ideal) X : FVec Ideal S256x7168 .bf16) (ix2 r d)
      = (deq (F := Ideal) (grp (F := Ideal) X (d.val / 128)) : FVec Ideal S256x128 .bf16) (ix2 r ⟨d.val % 128, by omega⟩) := rfl
  rw [h, deq_read, grp_row x X hX _ ⟨d.val / 128, by omega⟩ rfl, grp_at x X hX _ ⟨d.val / 128, by omega⟩ rfl, rA_read]

/-- The products agree: column `c` of a block is column `c'` of the whole. -/
theorem prods (hX : ∀ r d, X (ix2 r d) = x (ix3 0 r d)) (p : IVec S3584x18432 8) (w : FVec Ideal S56x18432 .f32)
    (x1 : IVec S3584x512 8) (x2 : FVec Ideal S56x512 .f32) (r : Fin 256) (c : Fin 512) (c' : Fin 18432)
    (h1 : ∀ k, x1 (ix2 k c) = p (ix2 k c')) (h2 : ∀ g, x2 (ix2 g c) = w (ix2 g c')) :
    (Yb (F := Ideal) x1 x2 (Aq (F := Ideal) X) : FVec Ideal S256x512 .bf16) (ix2 r c) = rY x p w (ix3 0 r c') := by
  rw [Yb_read, rY_read]
  refine Finset.sum_congr rfl fun d _ => ?_
  rw [term, rTerm, acts x X hX, h1, h2]

end Cert.Match

end
-- ==== Proof.KiArr.lean ====
/- The arrays the idealized kernel leaves, element by element the reference's values. -/
module

public import proofs.«01_k».proof.Proof.KiFrame
public import proofs.«01_k».proof.Proof.Match
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen
open Cert.Match
open Cert.ReferenceIdeal.Hand (rS rZ rP rA rY)

variable (m : (ℓ : Loc nD τ sig) → Buf (Elt Ideal) ℓ)

/-- The block indices of the windows at every point. -/
theorem idx : ∀ t : Fin cfg0.N, win0_0.index t = ![0, 0] ∧ win0_1.index t = ![0, t.val] ∧ win0_2.index t = ![0, t.val]
    ∧ win0_3.index t = ![0, t.val] ∧ win0_4.index t = ![0, 0] ∧ win0_5.index t = ![0, 0] ∧ win0_6.index t = ![0, 0] ∧ t.val < 36 :=
  (by decide +kernel : ∀ t : Fin grid0.N, _)

/-- The activation argument. -/
abbrev argX (c : Dev nD) : FVec Ideal S1x256x7168 .bf16 := m ((c : Thread nD τ).loc main_arg0)
/-- The packed weights argument. -/
abbrev argP (c : Dev nD) : IVec S3584x18432 8 := m ((c : Thread nD τ).loc main_arg1)
/-- The weight scales argument. -/
abbrev argW (c : Dev nD) : FVec Ideal S56x18432 .f32 := m ((c : Thread nD τ).loc main_arg2)

/-- The kernel's operand is the activation argument without its leading axis. -/
theorem V_v0 (c : Dev nD) : (V m c main_v0 : FVec Ideal S256x7168 .bf16) = shapeCast S256x7168 (argX m c) shapeCasts_S1x256x7168_S256x7168 := by
  entry_read
  rfl

/-- The activation block is the whole operand. -/
theorem X0_V (c : Dev nD) (t : Fin cfg0.N) (r : Fin 256) (d : Fin 7168) :
    (iblk m c 0 t : FVec Ideal S256x7168 .bf16) (ix2 r d) = (V m c main_v0 : FVec Ideal S256x7168 .bf16) (ix2 r d) := by
  unfold iblk
  refine congrArg (V m c main_v0 : FVec Ideal S256x7168 .bf16) ?_
  blk_ext [idx t]

/-- The activation block at one element of the argument. -/
theorem X0_read (c : Dev nD) (r : Fin 256) (d : Fin 7168) :
    (X0 m c : FVec Ideal S256x7168 .bf16) (ix2 r d) = argX m c (ix3 0 r d) := by
  unfold X0
  rw [X0_V, V_v0]
  pointwise

/-- Block `t` of the packed weights: columns `512 t …`. -/
theorem P_read (c : Dev nD) (t : Fin cfg0.N) (k : Fin 3584) (j : Fin 512) (h : t.val * 512 + j.val < 18432) :
    (iblk m c 1 t : IVec S3584x512 8) (ix2 k j) = argP m c (ix2 k ⟨t.val * 512 + j.val, h⟩) := by
  blk_ext [iblk, V, idx t]

/-- Block `t` of the weight scales: columns `512 t …`. -/
theorem W_read (c : Dev nD) (t : Fin cfg0.N) (k : Fin 56) (j : Fin 512) (h : t.val * 512 + j.val < 18432) :
    (iblk m c 2 t : FVec Ideal S56x512 .f32) (ix2 k j) = argW m c (ix2 k ⟨t.val * 512 + j.val, h⟩) := by
  blk_ext [iblk, V, idx t]

/-- The product array. -/
theorem final3 (c : Dev nD) : (dats m 0 c).arrAt 3 (cfgs 0).N
    = (fun y => rY (argX m c) (argP m c) (argW m c) (ix3 0 (y 0) (y 1)) : FVec Ideal S256x18432 .bf16) := by
  refine (dats m 0 c).arrAt_eq_of_covers 3 _ (by decide +kernel) fun t _ y => ?_
  blk_simp
  rw [after0_3]
  obtain ⟨a, b, rfl⟩ : ∃ (a : Fin 256) (b : Fin 512), y = ix2 a b := ⟨y 0, y 1, by funext i; fin_cases i <;> rfl⟩
  have ht : t.val < 36 := (idx t).2.2.2.2.2.2.2
  have hb := b.isLt
  refine (prods (argX m c) (X0 m c) (X0_read m c) (argP m c) (argW m c) (iblk m c 1 t) (iblk m c 2 t) a b ⟨t.val * 512 + b.val, by omega⟩
    (fun k => P_read m c t k b _) (fun k => W_read m c t k b _)).trans ?_
  refine congrArg (rY (argX m c) (argP m c) (argW m c)) ?_
  blk_ext [idx t]

/-- The packed codes array. -/
theorem final4 (c : Dev nD) : (dats m 0 c).arrAt 4 (cfgs 0).N
    = (fun y => rP (argX m c) (ix3 0 (y 0) (y 1)) : IVec S256x3584 8) := by
  refine (dats m 0 c).arrAt_eq_of_covers 4 _ (by decide +kernel) fun t _ y => ?_
  blk_simp
  rw [after0_4]
  obtain ⟨a, b, rfl⟩ : ∃ (a : Fin 256) (b : Fin 3584), y = ix2 a b := ⟨y 0, y 1, by funext i; fin_cases i <;> rfl⟩
  refine (codes (argX m c) (X0 m c) (X0_read m c) a b).trans ?_
  refine congrArg (rP (argX m c)) ?_
  blk_ext [idx t]

/-- The scales array. -/
theorem final5 (c : Dev nD) : (dats m 0 c).arrAt 5 (cfgs 0).N
    = (fun y => rS (argX m c) (ix3 0 (y 0) (y 1)) : FVec Ideal S256x56 .f32) := by
  refine (dats m 0 c).arrAt_eq_of_covers 5 _ (by decide +kernel) fun t _ y => ?_
  blk_simp
  rw [after0_5]
  obtain ⟨a, b, rfl⟩ : ∃ (a : Fin 256) (b : Fin 56), y = ix2 a b := ⟨y 0, y 1, by funext i; fin_cases i <;> rfl⟩
  refine (scales (argX m c) (X0 m c) (X0_read m c) a b).trans ?_
  refine congrArg (rS (argX m c)) ?_
  blk_ext [idx t]

/-- The zero points array. -/
theorem final6 (c : Dev nD) : (dats m 0 c).arrAt 6 (cfgs 0).N
    = (fun y => rZ (argX m c) (ix3 0 (y 0) (y 1)) : IVec S256x56 8) := by
  refine (dats m 0 c).arrAt_eq_of_covers 6 _ (by decide +kernel) fun t _ y => ?_
  blk_simp
  rw [after0_6]
  obtain ⟨a, b, rfl⟩ : ∃ (a : Fin 256) (b : Fin 56), y = ix2 a b := ⟨y 0, y 1, by funext i; fin_cases i <;> rfl⟩
  refine (zeros (argX m c) (X0 m c) (X0_read m c) a b).trans ?_
  refine congrArg (rZ (argX m c)) ?_
  blk_ext [idx t]

end Cert.KernelIdeal.Hand

end
-- ==== Proof.KiRun.lean ====
/- The idealized kernel's run: it ends with its four results at the reference's values. -/
module

public import proofs.«01_k».proof.Proof.KiArr

@[expose] public section

set_option maxRecDepth 16384

noncomputable section

open Idealize.ShloMosaic Idealize.ShloMosaic.TcCoe Idealize.SL.Sem

namespace Cert.KernelIdeal.Hand

open Cert.KernelIdeal Cert.KernelIdeal.Gen
open Cert.ReferenceIdeal.Hand (rS rZ rP rA rY)

variable (m : (ℓ : Loc nD τ sig) → Buf (Elt Ideal) ℓ) (g : Dev nD → PrngReg)

/-- No two windows stage the same array. -/
theorem arr_inj : Function.Injective (Pipeline.arrRef spec0) := by decide

/-- What the lines after the pipeline make of the product: the same with a leading axis. -/
theorem after_v2 (Wv : Valuation τ sig (Elt Ideal)) : StableHlo.after [hostOps1].flatten Wv (Proc.devRef .tc main_v2)
    = shapeCast S1x256x18432 (show FVec Ideal S256x18432 .bf16 from Wv (Proc.devRef .tc main_v1_0)) shapeCasts_S256x18432_S1x256x18432 := by
  simp only [hostOps1, List.flatten_cons, List.flatten_nil, List.append_nil]
  after_results
  rfl

/-- The first result after the final reshapes is the output `rY`. -/
theorem tail_v2 (c : Dev nD) : Pipeline.afterTail₀ cfgs (dats m) 0 (V0 m) [hostOps1] c main_v2 = rY (argX m c) (argP m c) (argW m c) := by
  have h := Pipeline.withArrays_arr spec0 arr_inj c (V0 m c) (fun w => (dats m 0 c).arrAt w (cfgs 0).N) 3
  unfold Pipeline.afterTail₀
  refine (after_v2 _).trans ?_
  refine (congrArg (fun v : FVec Ideal S256x18432 .bf16 => shapeCast S1x256x18432 v shapeCasts_S256x18432_S1x256x18432) (h.trans (final3 m c))).trans ?_
  funext y
  obtain ⟨a, b, rfl⟩ : ∃ (a : Fin 256) (b : Fin 18432), y = ix3 0 a b :=
    ⟨y 1, y 2, by funext i; fin_cases i; exact Subsingleton.elim (α := Fin 1) _ _; rfl; rfl⟩
  pointwise

/-- What the lines after the pipeline make of the packed codes: the same with a leading axis. -/
theorem after_v3 (Wv : Valuation τ sig (Elt Ideal)) : StableHlo.after [hostOps1].flatten Wv (Proc.devRef .tc main_v3)
    = shapeCast S1x256x3584 (show IVec S256x3584 8 from Wv (Proc.devRef .tc main_v1_1)) shapeCasts_S256x3584_S1x256x3584 := by
  simp only [hostOps1, List.flatten_cons, List.flatten_nil, List.append_nil]
  after_results
  rfl

/-- The second result after the final reshapes is the packed codes `rP`. -/
theorem tail_v3 (c : Dev nD) : Pipeline.afterTail₀ cfgs (dats m) 0 (V0 m) [hostOps1] c main_v3 = rP (argX m c) := by
  have h := Pipeline.withArrays_arr spec0 arr_inj c (V0 m c) (fun w => (dats m 0 c).arrAt w (cfgs 0).N) 4
  unfold Pipeline.afterTail₀
  refine (after_v3 _).trans ?_
  refine (congrArg (fun v : IVec S256x3584 8 => shapeCast S1x256x3584 v shapeCasts_S256x3584_S1x256x3584) (h.trans (final4 m c))).trans ?_
  funext y
  obtain ⟨a, b, rfl⟩ : ∃ (a : Fin 256) (b : Fin 3584), y = ix3 0 a b :=
    ⟨y 1, y 2, by funext i; fin_cases i; exact Subsingleton.elim (α := Fin 1) _ _; rfl; rfl⟩
  pointwise

/-- What the lines after the pipeline make of the scales: the same with a leading axis. -/
theorem after_v4 (Wv : Valuation τ sig (Elt Ideal)) : StableHlo.after [hostOps1].flatten Wv (Proc.devRef .tc main_v4)
    = shapeCast S1x256x56 (show FVec Ideal S256x56 .f32 from Wv (Proc.devRef .tc main_v1_2)) shapeCasts_S256x56_S1x256x56 := by
  simp only [hostOps1, List.flatten_cons, List.flatten_nil, List.append_nil]
  after_results
  rfl

/-- The third result after the final reshapes is the scales `rS`. -/
theorem tail_v4 (c : Dev nD) : Pipeline.afterTail₀ cfgs (dats m) 0 (V0 m) [hostOps1] c main_v4 = rS (argX m c) := by
  have h := Pipeline.withArrays_arr spec0 arr_inj c (V0 m c) (fun w => (dats m 0 c).arrAt w (cfgs 0).N) 5
  unfold Pipeline.afterTail₀
  refine (after_v4 _).trans ?_
  refine (congrArg (fun v : FVec Ideal S256x56 .f32 => shapeCast S1x256x56 v shapeCasts_S256x56_S1x256x56) (h.trans (final5 m c))).trans ?_
  funext y
  obtain ⟨a, b, rfl⟩ : ∃ (a : Fin 256) (b : Fin 56), y = ix3 0 a b :=
    ⟨y 1, y 2, by funext i; fin_cases i; exact Subsingleton.elim (α := Fin 1) _ _; rfl; rfl⟩
  pointwise

/-- What the lines after the pipeline make of the zero points: the same with a leading axis. -/
theorem after_v5 (Wv : Valuation τ sig (Elt Ideal)) : StableHlo.after [hostOps1].flatten Wv (Proc.devRef .tc main_v5)
    = shapeCast S1x256x56 (show IVec S256x56 8 from Wv (Proc.devRef .tc main_v1_3)) shapeCasts_S256x56_S1x256x56 := by
  simp only [hostOps1, List.flatten_cons, List.flatten_nil, List.append_nil]
  after_results
  rfl

/-- The fourth result after the final reshapes is the zero points `rZ`. -/
theorem tail_v5 (c : Dev nD) : Pipeline.afterTail₀ cfgs (dats m) 0 (V0 m) [hostOps1] c main_v5 = rZ (argX m c) := by
  have h := Pipeline.withArrays_arr spec0 arr_inj c (V0 m c) (fun w => (dats m 0 c).arrAt w (cfgs 0).N) 6
  unfold Pipeline.afterTail₀
  refine (after_v5 _).trans ?_
  refine (congrArg (fun v : IVec S256x56 8 => shapeCast S1x256x56 v shapeCasts_S256x56_S1x256x56) (h.trans (final6 m c))).trans ?_
  funext y
  obtain ⟨a, b, rfl⟩ : ∃ (a : Fin 256) (b : Fin 56), y = ix3 0 a b :=
    ⟨y 1, y 2, by funext i; fin_cases i; exact Subsingleton.elim (α := Fin 1) _ _; rfl; rfl⟩
  pointwise

/-- The run with what the pipeline leaves in every buffer. -/
theorem run_main : θ_run defs (onTc (τ := τ) (main (F := Ideal))) (s₀ m g)
    (Pipeline.FramePost cfgs (dats m) 0 (Pipeline.afterTail₀ cfgs (dats m) 0 (V0 m) [hostOps1])) :=
  (θ_run defs _ _).mono (fun _ h => h.1) (run_final m g)

set_option maxHeartbeats 1600000 in
/-- The kernel ends with its four results at the reference's values of its arguments, and its arguments as they were. -/
theorem run : θ_run (defs (F := Ideal)) (onTc (τ := τ) (main (F := Ideal))) ⟨m, fun _ => 0, g⟩ (fun r => ∀ c : Dev nD,
      r.2.mem ((c.tc : Thread nD τ).loc main_v2) = rY (argX m c) (argP m c) (argW m c)
      ∧ r.2.mem ((c.tc : Thread nD τ).loc main_v3) = rP (argX m c)
      ∧ r.2.mem ((c.tc : Thread nD τ).loc main_v4) = rS (argX m c)
      ∧ r.2.mem ((c.tc : Thread nD τ).loc main_v5) = rZ (argX m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  run_from run_main m g
  · exact tail_v2 m c
  · exact tail_v3 m c
  · exact tail_v4 m c
  · exact tail_v5 m c
  · exact W_main_arg0 m (dats m) c

end Cert.KernelIdeal.Hand

end
-- ==== Proof.RefRun.lean ====
/- The reference's run: it ends with its four results at the values named in `RefTerm`. -/
module

public import proofs.«01_k».proof.Defs
public import proofs.«01_k».proof.Proof.RefTerm
public import Idealize.ShloMosaic.Lib.Claim

@[expose] public section

set_option maxRecDepth 16384

noncomputable section

open Idealize.ShloMosaic Idealize.SL.Sem

namespace Cert.ReferenceIdeal.Hand

open Cert.ReferenceIdeal Cert.ReferenceIdeal.Gen

set_option maxHeartbeats 1600000 in
/-- The reference leaves its arguments as they were. -/
theorem frame : Cert.quiescent_ReferenceIdeal := by
  intro m g _
  hlo_run
  all_goals first
    | exact fun _ => ⟨trivial, trivial, trivial⟩
    | exact sem_eq_zero_of_no_sems (sig := sig) (by decide) _

set_option maxHeartbeats 1600000 in
/-- The reference ends with its four results at the values named above, and its arguments as they were. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v65) = rY (m ((c.tc : Thread nD τ).loc main_arg0)) (m ((c.tc : Thread nD τ).loc main_arg1)) (m ((c.tc : Thread nD τ).loc main_arg2))
      ∧ r.2.mem ((c.tc : Thread nD τ).loc main_v38) = rP (m ((c.tc : Thread nD τ).loc main_arg0))
      ∧ r.2.mem ((c.tc : Thread nD τ).loc main_v12) = rS (m ((c.tc : Thread nD τ).loc main_arg0))
      ∧ r.2.mem ((c.tc : Thread nD τ).loc main_v27) = rZ (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  hlo_run
  all_goals simp only [StableHlo.TRef.toBuf, StableHlo.TRef.ofBuf, cast_eq, id]
  · unfold rY rAt rW rN rA rZ rC rCf rB rZf rS rHi rLo rX
    with_reducible_and_instances rfl
  · unfold rP rC2 rC rCf rB rZf rS rHi rLo rX
    with_reducible_and_instances rfl
  · unfold rS rHi rLo rX
    with_reducible_and_instances rfl
  · unfold rZ rZf rS rHi rLo rX
    with_reducible_and_instances rfl

end Cert.ReferenceIdeal.Hand

end
-- ==== Proof.Value.lean ====
/- The value claim: every run of the idealized kernel and every run of the reference end with the same four results. -/
module

public import proofs.«01_k».proof.Proof.KiRun
public import proofs.«01_k».proof.Proof.RefRun

@[expose] public section

set_option maxRecDepth 16384

noncomputable section

open Idealize.ShloMosaic Idealize.SL.Sem

namespace Cert.Proof

open Cert.KernelIdeal.Hand (argX argP argW)
open Cert.ReferenceIdeal.Hand (rY rP rS rZ)

/-- Over the extended reals the kernel and the reference agree on all four results. -/
theorem algebraic : Cert.algebraic_KernelIdeal_ReferenceIdeal := by
  intro m g m' g' _ hagree
  refine ⟨fun c => rY (argX m c) (argP m c) (argW m c), fun c => rP (argX m c), fun c => rS (argX m c), fun c => rZ (argX m c),
    Cert.KernelIdeal.Hand.run m g, (θ_run _ _ _).mono (fun r h c => ?_) (Cert.ReferenceIdeal.Hand.run m' g')⟩
  obtain ⟨h0, h1, h2, h3, ha⟩ := h c
  obtain ⟨e0, e1, e2⟩ := hagree c
  exact ⟨h0.trans (congr (congr (congrArg rY e0) e1) e2), h1.trans (congrArg rP e0), h2.trans (congrArg rS e0),
    h3.trans (congrArg rZ e0), ha⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KbFrame
public import proofs.«01_k».proof.Proof.KiFrame
public import proofs.«01_k».proof.Proof.Value
public import Idealize.ShloMosaic.Adequacy
public import Idealize.ShloMosaic.Init

@[expose] public section

noncomputable section

namespace Cert.Proof

open Idealize.ShloMosaic Idealize.SL.Sem Cert.Kernel

/-- The programs' stated facts, and every claim. -/
theorem claim : Cert.Claim := ⟨Cert.Kernel.Gen.facts, Cert.KernelIdeal.Gen.facts, Cert.ReferenceIdeal.Gen.facts,
  fun m ρ _ => Cert.Kernel.Hand.frame m ρ, fun m ρ _ => Cert.KernelIdeal.Hand.frame m ρ, Cert.ReferenceIdeal.Hand.frame, trivial, algebraic⟩

end Cert.Proof

end
